-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 4096, 1024]⟩ ⟨3, ![2, 32768, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 1024]⟩ ⟨3, ![2, 32768, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S4x1024 : Shape := ⟨2, ![4, 1024]⟩
abbrev S8x2x264x1024 : Shape := ⟨4, ![8, 2, 264, 1024]⟩
abbrev S8x2x256x1024 : Shape := ⟨4, ![8, 2, 256, 1024]⟩
abbrev S2x8x1024 : Shape := ⟨3, ![2, 8, 1024]⟩
abbrev S8 : Shape := ⟨1, ![8]⟩
abbrev S_ : Shape := ⟨0, ![]⟩
abbrev S1 : Shape := ⟨1, ![1]⟩
abbrev S1x2x264x1024 : Shape := ⟨4, ![1, 2, 264, 1024]⟩
abbrev S2x264x1024 : Shape := ⟨3, ![2, 264, 1024]⟩
abbrev S1x1024 : Shape := ⟨2, ![1, 1024]⟩
abbrev S1x1x1024 : Shape := ⟨3, ![1, 1, 1024]⟩
abbrev S1x2x259x1024 : Shape := ⟨4, ![1, 2, 259, 1024]⟩
abbrev S2x259x1024 : Shape := ⟨3, ![2, 259, 1024]⟩
abbrev S2x256x1024 : Shape := ⟨3, ![2, 256, 1024]⟩
abbrev S1x2x256x1024 : Shape := ⟨4, ![1, 2, 256, 1024]⟩
abbrev S2x3x1024 : Shape := ⟨3, ![2, 3, 1024]⟩
abbrev S1x2x3x1024 : Shape := ⟨4, ![1, 2, 3, 1024]⟩
abbrev S1x2x4x1024 : Shape := ⟨4, ![1, 2, 4, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x1024, .bf16⟩
  | .hbm, ⟨1, _⟩ => ⟨S4x1024, .bf16⟩
  | .hbm, ⟨2, _⟩ => ⟨S2x4096x1024, .bf16⟩
  | .local _ .vmem, ⟨0, _⟩ => ⟨S4x1024, .bf16⟩
  | .local _ .vmem, ⟨1, _⟩ => ⟨S8x2x264x1024, .bf16⟩
  | .local _ .vmem, ⟨2, _⟩ => ⟨S8x2x256x1024, .bf16⟩
  | .local _ .vmem, ⟨3, _⟩ => ⟨S2x8x1024, .bf16⟩
  | .local _ .vmem, ⟨4, _⟩ => ⟨S2x8x1024, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_53 : BitVec 32 := 0#32
  let v47 : BitVec 1 := Scalar.cmpi .sgt v2 c0_i32_53
  let v48 : BitVec 32 := Scalar.extui v47
  let c0_i32_54 : BitVec 32 := 0#32
  let v49 : BitVec 1 := Scalar.cmpi .ne v48 c0_i32_54
  v49

def k0_dev1 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c1_i32_668 : BitVec 32 := 1#32
  let v807 : BitVec 32 := Scalar.muli v3 c1_i32_668
  let v808 : BitVec 32 := Scalar.addi c0_i32_669 v807
  v808.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_55 : BitVec 32 := 7#32
  let v50 : BitVec 1 := Scalar.cmpi .slt v2 c7_i32_55
  let v51 : BitVec 32 := Scalar.extui v50
  let c0_i32_56 : BitVec 32 := 0#32
  let v52 : BitVec 1 := Scalar.cmpi .ne v51 c0_i32_56
  v52

def k0_dev2 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.addi v2 c1_i32_1
  let c1_i32_671 : BitVec 32 := 1#32
  let v808 : BitVec 32 := Scalar.muli v4 c1_i32_671
  let v809 : BitVec 32 := Scalar.addi c0_i32_672 v808
  v809.toNat
abbrev stage0_0 : Fin 1 → Memref sig .tc .vmem S4x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x32768x1024 : Shape := ⟨3, ![2, 32768, 1024]⟩
abbrev S4x1024 : Shape := ⟨2, ![4, 1024]⟩
abbrev S_ : Shape := ⟨0, ![]⟩
abbrev S2x3x1024 : Shape := ⟨3, ![2, 3, 1024]⟩
abbrev S2x32771x1024 : Shape := ⟨3, ![2, 32771, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x32768x1024, .bf16⟩
  | .hbm, ⟨1, _⟩ => ⟨S4x1024, .bf16⟩
  | .hbm, ⟨2, _⟩ => ⟨S2x32768x1024, .f32⟩
  | .hbm, ⟨3, _⟩ => ⟨S4x1024, .f32⟩
  | .hbm, ⟨4, _⟩ => ⟨S_, .f32⟩
  | .hbm, ⟨5, _⟩ => ⟨S2x3x1024, .f32⟩
  | .hbm, ⟨6, _⟩ => ⟨S2x32771x1024, .f32⟩
  | .hbm, ⟨7, _⟩ => ⟨S_, .f32⟩
  | .hbm, ⟨8, _⟩ => ⟨S2x32768x1024, .f32⟩
  | .hbm, ⟨9, _⟩ => ⟨S2x32768x1024, .f32⟩
  | .hbm, ⟨10, _⟩ => ⟨S1x1024, .f32⟩
  | .hbm, ⟨11, _⟩ => ⟨S1024, .f32⟩
  | .hbm, ⟨12, _⟩ => ⟨S1x1x1024, .f32⟩
  | .hbm, ⟨13, _⟩ => ⟨S2x32768x1024, .f32⟩
  | .hbm, ⟨14, _⟩ => ⟨S2x32768x1024, .f32⟩
  | .hbm, ⟨15, _⟩ => ⟨S2x32768x1024, .f32⟩
  | .hbm, ⟨16, _⟩ => ⟨S2x32768x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S2x32768x1024, .f32⟩
  | .hbm, ⟨21, _⟩ => ⟨S2x32768x1024, .f32⟩
  | .hbm, ⟨22, _⟩ => ⟨S2x32768x1024, .f32⟩
  | .hbm, ⟨23, _⟩ => ⟨S2x32768x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S2x32768x1024, .f32⟩
  | .hbm, ⟨28, _⟩ => ⟨S2x32768x1024, .f32⟩
  | .hbm, ⟨29, _⟩ => ⟨S2x32768x1024, .f32⟩
  | .hbm, ⟨30, _⟩ => ⟨S2x32768x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S2x32768x1024, .f32⟩
  | .hbm, ⟨35, _⟩ => ⟨S2x32768x1024, .f32⟩
  | .hbm, ⟨36, _⟩ => ⟨S2x32768x1024, .f32⟩
  | .hbm, ⟨37, _⟩ => ⟨S2x32768x1024, .f32⟩
  | .hbm, ⟨38, _⟩ => ⟨S2x32768x1024, .f32⟩
  | .hbm, ⟨39, _⟩ => ⟨S_, .f32⟩
  | .hbm, ⟨40, _⟩ => ⟨S2x32768x1024, .f32⟩
  | .hbm, ⟨41, _⟩ => ⟨S2x32768x1024, .f32⟩
  | .hbm, ⟨42, _⟩ => ⟨S2x32768x1024, .f32⟩
  | .hbm, ⟨43, _⟩ => ⟨S2x32768x1024, .bf16⟩
  | _, _ => ⟨S2x32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== Proof.Proto.lean ====
/-
# The handshake between neighbouring devices, as a schedule

Device `c` receives the last eight rows of its block of `x` from the device before it, in its halo buffer. Three cells
carry the exchange, each used at most once:

* the barrier cell of `c` (for `c < 7`): `c` waits for one unit, which device `c + 1` signals. It hands over the halo
  buffer of `c + 1`, at whatever contents it has, so that `c` may copy into it;
* the receive cell of `c` (for `0 < c`): credited by the copy device `c - 1` starts, it hands over the halo buffer of `c`
  holding the last eight rows of the block of `c - 1`;
* the send cell of `c` (for `c < 7`): credited by the same copy on the sending side, it hands the send buffer back.

The other cells of the three kinds (barrier and send of the last device, receive of the first) carry no duty.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the handshake's rounds, the local transfers' counters -/

abbrev UH : Type := URounds (GSem nD τ sig) Unit
abbrev UU : Type := UR sig nD τ × (UH × Counters)

local notation "𝕄" => MT nD τ sig Unit (Elt F) ℕ UU ℕ

abbrev EP : Emb (UR sig nD τ) (MT nD τ sig Unit (Elt F) ℕ UU ℕ) := embL
abbrev ER : Emb UH (MT nD τ sig Unit (Elt F) ℕ UU ℕ) :=
  ((Emb.inl : Emb UH (UH × Counters)).trans (Emb.inr : Emb (UH × Counters) UU)).trans
    (uEmb (nD := nD) (sig := sig) (Ix := Unit) (Val := Elt F) (Name := ℕ) (U := UU) (Lvl := ℕ)).toEmb

variable (m : (ℓ : Loc nD τ sig) → Buf (Elt F) ℓ) (ρ : Dev nD → PrngReg)

/-! ## The devices around -/

set_option backward.proofsInPublic true in
/-- The device after. -/
def nxt (c : Dev nD) : Dev nD := ⟨(c.val + 1) % 8, Nat.mod_lt _ (by decide)⟩
set_option backward.proofsInPublic true in
/-- The device before. -/
def prv (c : Dev nD) : Dev nD := ⟨(c.val + 7) % 8, Nat.mod_lt _ (by decide)⟩

/-- The device before the one after. -/
theorem prv_nxt (c : Dev nD) : prv (nxt c) = c := by revert c; decide
/-- The device after the one before. -/
theorem nxt_prv (c : Dev nD) : nxt (prv c) = c := by revert c; decide
/-- The device after one that is not the last is not the first. -/
theorem nxt_pos (c : Dev nD) (h : c.val < 7) : 0 < (nxt c).val := by revert c; decide
/-- The device before one that is not the first is not the last. -/
theorem prv_lt (c : Dev nD) (h : 0 < c.val) : (prv c).val < 7 := by revert c; decide
/-- The devices in a ring. -/
def ring : Dev nD ≃ Dev nD := ⟨nxt, prv, prv_nxt, nxt_prv⟩

/-! ## The memrefs and cells -/

abbrev xM : Memref sig .tc .hbm S2x4096x1024 .bf16 := Memref.whole main_arg0
abbrev hM : Memref sig .tc .vmem S2x8x1024 .bf16 := Memref.whole cc0_scratch2
abbrev sM : Memref sig .tc .vmem S2x8x1024 .bf16 := Memref.whole cc0_scratch3
/-- The last eight rows of the device's block of `x`. -/
abbrev tailM : Memref sig .tc .hbm S2x8x1024 .bf16 :=
  xM.slice (Rect.unit (s := S2x4096x1024) ![0, 4088, 0] S2x8x1024.size inb_S2x4096x1024_S2x8x1024_0_4088_0) (fun _ => rfl)

abbrev barS : Sem sig := (SemArray.scalar (sig.barrier 0 rfl) : Sems sig S_).sem
abbrev sendS : DmaSems sig S_ := cc0_scratch6
abbrev recvS : DmaSems sig S_ := cc0_scratch7

/-- The three cells of the exchange on each device: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)
abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The credit of one halo copy. -/
abbrev N : ℕ := (hM : Memref sig .tc .vmem S2x8x1024 .bf16).view.dmaCredit
/-- The credit of a halo copy is positive. -/
theorem N_pos : 0 < N := View.dmaCredit_pos _ (by decide)

/-! ## What is handed over -/

/-- Device `c`'s block of `x`, as launched. -/
abbrev xAt (c : Dev nD) : Buf (Elt F) ((c : Thread nD τ).loc main_arg0) := m ((c : Thread nD τ).loc main_arg0)

/-- The last eight rows of device `c`'s block of `x`. -/
def tailOf (c : Dev nD) : S2x8x1024.Idx → Elt F .bf16 := (tailM : Memref sig .tc .hbm S2x8x1024 .bf16).view.read (Elt F) (xAt m c)

/-- The halo buffer of device `c`, whole, at contents `f`. -/
def haloPts (c : Dev nD) (f : S2x8x1024.Idx → Elt F .bf16) : sProp 𝕄 :=
  (hM : Memref sig .tc .vmem S2x8x1024 .bf16).view.loc (c : Thread nD τ) ↦[(hM : Memref sig .tc .vmem S2x8x1024 .bf16).view.set]{fullShare} f
/-- The send buffer of device `c`, whole, at contents `f`. -/
def sendPts (c : Dev nD) (f : S2x8x1024.Idx → Elt F .bf16) : sProp 𝕄 :=
  (sM : Memref sig .tc .vmem S2x8x1024 .bf16).view.loc (c : Thread nD τ) ↦[(sM : Memref sig .tc .vmem S2x8x1024 .bf16).view.set]{fullShare} f

omit [FloatOps F] in
instance haloPts_storable (c : Dev nD) (f) : BI.Storable (upEmb : UEmb _ 𝕄) (haloPts (F := F) c f) := by unfold haloPts; infer_instance
omit [FloatOps F] in
instance sendPts_storable (c : Dev nD) (f) : BI.Storable (upEmb : UEmb _ 𝕄) (sendPts (F := F) c f) := by unfold sendPts; infer_instance

omit [FloatOps F] in
/-- The halo buffer as a points-to of the whole buffer. -/
theorem haloPts_eq (c : Dev nD) (f : S2x8x1024.Idx → Elt F .bf16) :
    haloPts c f = (((c : Thread nD τ).loc cc0_scratch2) ↦{fullShare} (f : Buf (Elt F) ((c : Thread nD τ).loc cc0_scratch2)) : sProp 𝕄) := by
  unfold haloPts; rw [View.set_whole]
omit [FloatOps F] in
/-- The send buffer as a points-to of the whole buffer. -/
theorem sendPts_eq (c : Dev nD) (f : S2x8x1024.Idx → Elt F .bf16) :
    sendPts c f = (((c : Thread nD τ).loc cc0_scratch3) ↦{fullShare} (f : Buf (Elt F) ((c : Thread nD τ).loc cc0_scratch3)) : sProp 𝕄) := by
  unfold sendPts; rw [View.set_whole]

/-! ## The schedule -/

/-- Which cells carry a duty: barrier and send of every device but the last, receive of every device but the first. -/
abbrev Used (g : GSem nD τ sig) : Prop :=
  g.1.2 = .tc ∧ ((g.2 = .reg barS ∧ g.1.1.val < 7) ∨ (g.2 = .dma sendS.sem ∧ g.1.1.val < 7) ∨ (g.2 = .dma recvS.sem ∧ 0 < g.1.1.val))

/-- One round; a used cell has the one duty of its payer. -/
def Rd : Rounds.Schedule (GSem nD τ sig) Unit 𝕄 where
  duties g r := if r = 0 ∧ Used g then {()} else ∅
  unitless _ := False
  amount g _ _ := if g.2 = .reg barS then 1 else N
  payload g _ _ :=
    if g.2 = .reg barS then iprop(∃ f, haloPts (nxt g.1.1) f)
    else if g.2 = .dma recvS.sem then haloPts g.1.1 (tailOf m (prv g.1.1))
    else if g.2 = .dma sendS.sem then sendPts g.1.1 (tailOf m g.1.1)
    else iprop(emp)
  amount_pos g _ _ _ := by
    by_cases h : g.2 = .reg barS
    · rw [if_pos h]; exact Nat.one_pos
    · rw [if_neg h]; exact N_pos

instance Rd_payload_storable (g : GSem nD τ sig) (r : ℕ) (d : Unit) :
    BI.Storable (upEmb : UEmb _ 𝕄) ((Rd (F := F) m).payload g r d) := by
  show BI.Storable upEmb (if g.2 = .reg barS then iprop(∃ f, haloPts (nxt g.1.1) f) else if g.2 = .dma recvS.sem then haloPts g.1.1 (tailOf m (prv g.1.1))
    else if g.2 = .dma sendS.sem then sendPts g.1.1 (tailOf m g.1.1) else iprop(emp))
  (repeat' split) <;> infer_instance

section Tables
variable (c : Dev nD)

/-- The send semaphore is not the barrier semaphore. -/
theorem send_ne_bar : (SemLoc.dma sendS.sem : SemLoc sig) ≠ .reg barS := fun h => by cases h
/-- The receive semaphore is not the barrier semaphore. -/
theorem recv_ne_bar : (SemLoc.dma recvS.sem : SemLoc sig) ≠ .reg barS := fun h => by cases h
/-- The send semaphore is not the receive semaphore. -/
theorem send_ne_recv : (SemLoc.dma sendS.sem : SemLoc sig) ≠ .dma recvS.sem := by decide

omit [FloatOps F] in
/-- A used cell has one duty in its first round. -/
theorem duties_used (g : GSem nD τ sig) (h : Used g) : (Rd (F := F) m).duties g 0 = {()} := by dsimp only [Rd]; exact if_pos ⟨rfl, h⟩
omit [FloatOps F] in
/-- An unused cell has no duty in any round. -/
theorem duties_unused (g : GSem nD τ sig) (h : ¬ Used g) : ∀ r, 0 ≤ r → (Rd (F := F) m).duties g r = ∅ :=
  fun r _ => by dsimp only [Rd]; exact if_neg fun h' => h h'.2
omit [FloatOps F] in
/-- No cell has a duty after the first round. -/
theorem duties_later (g : GSem nD τ sig) : ∀ r, 0 + 1 ≤ r → (Rd (F := F) m).duties g r = ∅ :=
  fun r hr => by dsimp only [Rd]; exact if_neg fun h' => by omega

/-- The barrier cell is used on every device but the last. -/
theorem used_bar (h : c.val < 7) : Used (barCell c) := ⟨rfl, .inl ⟨rfl, h⟩⟩
/-- The send cell is used on every device but the last. -/
theorem used_send (h : c.val < 7) : Used (sendCell c) := ⟨rfl, .inr (.inl ⟨rfl, h⟩)⟩
/-- The receive cell is used on every device but the first. -/
theorem used_recv (h : 0 < c.val) : Used (recvCell c) := ⟨rfl, .inr (.inr ⟨rfl, h⟩)⟩
/-- The last device's barrier cell is not used. -/
theorem unused_bar (h : ¬ c.val < 7) : ¬ Used (barCell c) := by
  rintro ⟨-, h' | h' | h'⟩
  · exact h h'.2
  · exact send_ne_bar h'.1.symm
  · exact recv_ne_bar h'.1.symm
/-- The last device's send cell is not used. -/
theorem unused_send (h : ¬ c.val < 7) : ¬ Used (sendCell c) := by
  rintro ⟨-, h' | h' | h'⟩
  · exact send_ne_bar h'.1
  · exact h h'.2
  · exact send_ne_recv h'.1
/-- The first device's receive cell is not used. -/
theorem unused_recv (h : ¬ 0 < c.val) : ¬ Used (recvCell c) := by
  rintro ⟨-, h' | h' | h'⟩
  · exact recv_ne_bar h'.1
  · exact send_ne_recv h'.1.symm
  · exact h h'.2

omit [FloatOps F] in
/-- The barrier duty pays one unit. -/
theorem amount_bar : (Rd (F := F) m).amount (barCell c) 0 () = 1 := by dsimp only [Rd]; exact if_pos rfl
omit [FloatOps F] in
/-- The send duty pays the credit of a halo copy. -/
theorem amount_send : (Rd (F := F) m).amount (sendCell c) 0 () = N := by dsimp only [Rd]; exact if_neg send_ne_bar
omit [FloatOps F] in
/-- The receive duty pays the credit of a halo copy. -/
theorem amount_recv : (Rd (F := F) m).amount (recvCell c) 0 () = N := by dsimp only [Rd]; exact if_neg recv_ne_bar

omit [FloatOps F] in
/-- A used cell's round expects its one duty's amount. -/
theorem expect_used (g : GSem nD τ sig) (h : Used g) : (Rd (F := F) m).expect g 0 = (Rd (F := F) m).amount g 0 () := by
  unfold Schedule.expect Schedule.amountOf; rw [duties_used m g h, Finset.sum_singleton]
omit [FloatOps F] in
/-- A used cell's round hands over its one duty's payload. -/
theorem rest_used (g : GSem nD τ sig) (h : Used g) :
    bigSep ((Rd (F := F) m).duties g 0 \ ∅) (fun d => (Rd (F := F) m).payload g 0 d) = (Rd (F := F) m).payload g 0 () := by
  rw [Finset.sdiff_empty, duties_used m g h, bigSep_singleton]

omit [FloatOps F] in
/-- The barrier unit hands over the halo buffer of the device after. -/
theorem payload_bar : (Rd (F := F) m).payload (barCell c) 0 () = iprop(∃ f, haloPts (nxt c) f) := by dsimp only [Rd]; rw [if_pos rfl]
omit [FloatOps F] in
/-- The send credit hands the send buffer back. -/
theorem payload_send : (Rd (F := F) m).payload (sendCell c) 0 () = sendPts c (tailOf m c) := by
  dsimp only [Rd]; rw [if_neg send_ne_bar, if_neg send_ne_recv, if_pos rfl]
omit [FloatOps F] in
/-- The receive credit hands over the halo buffer with the last rows of the block before. -/
theorem payload_recv : (Rd (F := F) m).payload (recvCell c) 0 () = haloPts c (tailOf m (prv c)) := by
  dsimp only [Rd]; rw [if_neg recv_ne_bar, if_pos rfl]

end Tables

/-! ## What each device owes at launch; the levels -/

/-- The credit device `c` owes the receive cell of the device after it. -/
def Osend (c : Dev nD) : CellTallies nD τ sig Unit := if c.val < 7 then tallyAt (recvCell (nxt c)) () N else 0
/-- The unit it owes the barrier cell of the device before it. -/
def Obar (c : Dev nD) : CellTallies nD τ sig Unit := if 0 < c.val then tallyAt (barCell (prv c)) () 1 else 0
/-- All that a device owes at the start. -/
def O₀ (c : Dev nD) : CellTallies nD τ sig Unit := Osend c + Obar c

/-- A device that is not the last owes one halo copy. -/
theorem Osend_lt {c : Dev nD} (h : c.val < 7) : Osend c = tallyAt (recvCell (nxt c)) () N := if_pos h
/-- The last device owes no halo copy. -/
theorem Osend_last {c : Dev nD} (h : ¬ c.val < 7) : Osend c = 0 := if_neg h
/-- What a device that is not the first owes at the start. -/
theorem O₀_pos_dev {c : Dev nD} (h : 0 < c.val) : O₀ c = Osend c + tallyAt (barCell (prv c)) () 1 := by unfold O₀ Obar; rw [if_pos h]
/-- What the first device owes at the start. -/
theorem O₀_zero_dev {c : Dev nD} (h : ¬ 0 < c.val) : O₀ c = Osend c := by unfold O₀ Obar; rw [if_neg h, add_zero]

/-- Every TensorCore cell carries one level. -/
def L (g : GSem nD τ sig) : Finset Unit := if g.1.2 = .tc then {()} else ∅
/-- Barrier cells are at level 1, receive cells at 2, everything else at 0. -/
def lv (g : GSem nD τ sig) (_ : Unit) : ℕ := if g.2 = .reg barS then 1 else if g.2 = .dma recvS.sem then 2 else 0

/-- Only TensorCore cells carry a level. -/
theorem L_of_ne (g : GSem nD τ sig) (h : g.1.2 ≠ .tc) : L g = ∅ := if_neg h
/-- A TensorCore cell's one level entry. -/
theorem L_tc (c : Dev nD) (sm : SemLoc sig) : L ((c : Thread nD τ), sm) = {()} := if_pos rfl

/-- A tally at one cell is positive only there. -/
theorem tallyAt_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

/-- The halo copy is owed to the receive cell of the device after alone. -/
theorem Osend_pos {c : Dev nD} {g : GSem nD τ sig} {u : Unit} (h : 0 < Osend c g u) : g = recvCell (nxt c) := by
  unfold Osend at h
  split at h
  · exact tallyAt_pos h
  · exact absurd h (Nat.lt_irrefl 0)

/-- A device owes nothing but the halo copy and the barrier unit. -/
theorem O₀_pos {c : Dev nD} {g : GSem nD τ sig} {u : Unit} (h : 0 < O₀ c g u) : g = recvCell (nxt c) ∨ g = barCell (prv c) := by
  unfold O₀ at h
  rw [Pi.add_apply, Finsupp.add_apply] at h
  rcases Nat.add_pos_iff_pos_or_pos.mp h with h | h
  · exact .inl (Osend_pos h)
  · unfold Obar at h
    split at h
    · exact .inr (tallyAt_pos h)
    · exact absurd h (Nat.lt_irrefl 0)

/-- A receive cell's level. -/
theorem lv_recv (c : Dev nD) : lv (recvCell c) () = 2 := by dsimp only [lv]; rw [if_neg recv_ne_bar, if_pos rfl]
/-- A barrier cell's level. -/
theorem lv_bar (c : Dev nD) : lv (barCell c) () = 1 := by dsimp only [lv]; rw [if_pos rfl]

omit [FloatOps F] in
/-- A device may wait on a cell of level below all it owes. -/
theorem mayWait_below (c : Dev nD) (sm : SemLoc sig) (O : CellTallies nD τ sig Unit) (n : ℕ) (hn : lv ((c : Thread nD τ), sm) () ≤ n)
    (hO : ∀ g u, 0 < O g u → (∃ c', g = recvCell c' ∨ g = barCell c') ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨⟨c', rfl | rfl⟩, -⟩ := hO g u hg <;> exact Finset.mem_singleton_self _)
    (fun p hp => by rw [Finset.mem_singleton.mp hp]; exact hn)
    (fun g u hg => (hO g u hg).2)

omit [FloatOps F] in
/-- A staging cell may be waited for whatever of the launch's debts is left. -/
theorem mayWait_stage (c : Dev nD) (q : DmaSem sig) (hq : SemLoc.dma q ≠ .dma recvS.sem) (O : CellTallies nD τ sig Unit) (hO : O = O₀ c ∨ O = Osend c ∨ O = 0) :
    (levAts L lv : sProp 𝕄) ⊢ MayWait (c : Thread nD τ) (.dma q) () O := by
  have h0 : lv ((c : Thread nD τ), .dma q) () ≤ 0 := by dsimp only [lv]; rw [if_neg (fun h => by cases h), if_neg hq]
  rcases hO with rfl | rfl | rfl
  · refine mayWait_below c _ _ 0 h0 fun g u hg => ?_
    rcases O₀_pos hg with rfl | rfl
    · exact ⟨⟨_, .inl rfl⟩, by rw [lv_recv]; decide⟩
    · exact ⟨⟨_, .inr rfl⟩, by rw [lv_bar]; decide⟩
  · refine mayWait_below c _ _ 0 h0 fun g u hg => ?_
    obtain rfl := Osend_pos hg
    exact ⟨⟨_, .inl rfl⟩, by rw [lv_recv]; decide⟩
  · rw [MayWait_zero]; iintro -; iempintro

omit [FloatOps F] in
/-- The barrier cell may be waited for while the receive credit of the next device is owed. -/
theorem mayWait_bar (c : Dev nD) : (levAts L lv : sProp 𝕄) ⊢ MayWait (c : Thread nD τ) (.reg barS) () (Osend c) := by
  refine mayWait_below c _ _ 1 (by rw [lv_bar]) fun g u hg => ?_
  obtain rfl := Osend_pos hg
  exact ⟨⟨_, .inl rfl⟩, by rw [lv_recv]; decide⟩

/-! ## The conditions the body branches on -/

/-- The signal is sent by every device but the first. -/
theorem cond1_iff (c : Dev nD) : k0_cond1 c = 1#1 ↔ 0 < c.val := by revert c; decide
/-- The halo is sent by every device but the last. -/
theorem cond2_iff (c : Dev nD) : k0_cond2 c = 1#1 ↔ c.val < 7 := by revert c; decide
/-- The signal goes to the device before. -/
theorem dev1_eq (c : Dev nD) (h : k0_cond1 c = 1#1) : (⟨k0_dev1 c, k0_dev1_lt c h⟩ : Dev nD) = prv c := by revert c; decide
/-- The halo goes to the device after. -/
theorem dev2_eq (c : Dev nD) (h : k0_cond2 c = 1#1) : (⟨k0_dev2 c, k0_dev2_lt c h⟩ : Dev nD) = nxt c := by revert c; decide

/-! ## What a device holds of the exchange -/

/-- Every cell's invariant, under the names the launch allocated them at, and that every cell has reached its round. -/
def records (K : Dev nD × Fin 3 → ℕ) : sProp 𝕄 :=
  iprop((bigSep Finset.univ fun ck : Dev nD × Fin 3 => cellInv ER (Rd m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
/-- One cell's invariant among the records. -/
theorem inv_at (K : Dev nD × Fin 3 → ℕ) (ck : Dev nD × Fin 3) : records m K ⊢ cellInv ER (Rd m) (K ck) (kcell ck) := by
  have h : (bigSep Finset.univ fun ck : Dev nD × Fin 3 => (cellInv ER (Rd m) (K ck) (kcell ck) : sProp 𝕄)) ⊢ cellInv ER (Rd m) (K ck) (kcell ck) :=
    bigSep_elim (Finset.mem_univ ck)
  unfold records; iintro ⟨H, -⟩; iapply h; iexact H
omit [FloatOps F] in
/-- One cell's reached round among the records. -/
theorem reached_at (K : Dev nD × Fin 3 → ℕ) (ck : Dev nD × Fin 3) : records m K ⊢ reached ER (kcell ck) 0 := by
  have h : (bigSep Finset.univ fun ck : Dev nD × Fin 3 => (reached ER (kcell ck) 0 : sProp 𝕄)) ⊢ reached ER (kcell ck) 0 :=
    bigSep_elim (Finset.mem_univ ck)
  unfold records; iintro ⟨-, H⟩; iapply h; iexact H

/-- Device `c`'s share of the exchange: the records, its position on its three cells, the tokens of the duties it pays
    (its own send, the barrier of the device before it, the receive of the device after it). -/
def ghost (K : Dev nD × Fin 3 → ℕ) (c : Dev nD) : sProp 𝕄 :=
  iprop(records m K ∗ atPos ER (barCell c) 0 ∅ 0 ∗ atPos ER (sendCell c) 0 ∅ 0 ∗ atPos ER (recvCell c) 0 ∅ 0
    ∗ dutyTok ER (barCell (prv c)) 0 () ∗ dutyTok ER (recvCell (nxt c)) 0 () ∗ dutyTok ER (sendCell c) 0 ())

end Cert.Conv

end
-- ==== Proof.Exchange.lean ====
/-
# The conditional stretches of the body

The body branches on the device's place six times: to signal its barrier, to send its last rows, to drain the staging copy
of the send buffer on the last device, to clear the halo buffer on the first, to wait for the halo, and to wait for its own
send. Each branch is run here on its own and brought to one state stated for every device, so that the rest of the body is
run once.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Proto
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.VecWindow

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A branch that does something or nothing and goes on alike: enough that both ways lead from `P` to `P'`. -/
theorem wp_branch (c : Dev nD) {α : Type} {p : Prop} [Decidable p] (S : p → Prog (TpuEff nD τ sig (Elt F) Λ₀ .tc) PUnit)
    {A : p → Prog (TpuEff nD τ sig (Elt F) Λ₀ .tc) α} {T : Prog (TpuEff nD τ sig (Elt F) Λ₀ .tc) α} {P P' : sProp 𝕄} {Q : α → sProp 𝕄}
    (hA : ∀ h, A h = (S h >>= fun _ => T)) (hy : ∀ h, P ⊢ wpc c (S h) (fun _ => P')) (hn : ¬ p → P ⊢ iprop(|={Set.univ}=> P')) :
    P ⊢ iprop((P' -∗ wpc c T Q) -∗ wpc c (if h : p then A h else T) Q) := by
  iintro HP HT
  by_cases h : p
  · rw [dif_pos h, hA h]
    unfold wpc; rw [wp_bind]
    iapply (wp_wand frame (wpE (defs₀ (F := F)) 𝒱₀ (c : Thread nD τ) none) Set.univ (Q := fun _ => P') (Q' := fun _ => wpc c T Q)) $$ [HP]
    · iapply (hy h); iexact HP
    iintro %a HP'
    iapply HT; iexact HP'
  · rw [dif_neg h]
    imod (hn h) $$ HP with HP'
    iapply HT; iexact HP'

/-- The wait for the one round of a used cell of its own: the payload comes, and the cell is closed. -/
theorem wp_wait_close (c : Dev nD) (K : Dev nD × Fin 3 → ℕ) (i : Fin 3) (hu : Used (kcell (c, i)))
    {w : TpuEff nD τ sig (Elt F) Λ₀ .tc PUnit} {k' : ℕ}
    (hw : ∀ K : PUnit → sProp 𝕄, wpE (defs₀ (F := F)) 𝒱₀ (c : Thread nD τ) none Set.univ w K = waitSpec (c : Thread nD τ) Set.univ (csem i) k' K)
    (hk : (Rd (F := F) m).amount (kcell (c, i)) 0 () = k') {O : CellTallies nD τ sig Unit} {W : Waits sig Unit}
    {α : Type} {k : PUnit → Prog (TpuEff nD τ sig (Elt F) Λ₀ .tc) α} {Q : α → sProp 𝕄} :
    iprop(records m K ∗ cred (tallyAt (kcell (c, i)) () k') ∗ owes (c : Thread nD τ) O W ∗ MayWait (c : Thread nD τ) (csem i) () O ∗ atPos ER (kcell (c, i)) 0 ∅ 0)
      ⊢ iprop(((owes (c : Thread nD τ) O (insert (csem i, ()) W) ∗ semVal (kcell (c, i)) 0 ∗ (Rd (F := F) m).payload (kcell (c, i)) 0 ()) -∗ wpc c (k ⟨⟩) Q)
          -∗ wpc c (.op w k) Q) := by
  iintro ⟨#HR, Hcr, HO, HM, Hat⟩ Hk
  ihave #HI := (inv_at m K (c, i)) $$ HR
  iapply (Rounds.wp_wait_rest_token 𝒱₀ ER (Rd m) (c : Thread nD τ) none (κ := K (c, i)) hw (Set.mem_univ _) () (O := O) (W := W) (R := 0) (m := 0) (T := ∅)
      (by rw [Nat.zero_add, expect_used m _ hu, hk])) $$ [Hcr HO HM Hat]
  · isplitr; · iexact HI
    isplitl [Hcr]; · iexact Hcr
    isplitl [HO]; · iexact HO
    isplitl [HM]; · iexact HM
    iexact Hat
  iintro ⟨HO, Hat, -, Hpay⟩
  ihave Hp := (Entails.of_eq (rest_used m _ hu)) $$ Hpay
  imod (Rounds.cell_close ER (Rd m) (Set.mem_univ (K (c, i))) (fun h => h) (R := 0 + 1) (duties_later m (kcell (c, i)))) $$ [Hat] with Hz
  · isplitr; · iexact HI
    iexact Hat
  iapply Hk
  isplitl [HO]; · iexact HO
  isplitl [Hz] <;> iassumption

/-- A cell with no duty closes at once. -/
theorem close_unused (c : Dev nD) (K : Dev nD × Fin 3 → ℕ) (i : Fin 3) (hu : ¬ Used (kcell (c, i))) :
    iprop(records m K ∗ atPos ER (kcell (c, i)) 0 ∅ 0) ⊢ (iprop(|={Set.univ}=> semVal (kcell (c, i)) 0) : sProp 𝕄) := by
  iintro ⟨#HR, Hat⟩
  ihave #HI := (inv_at m K (c, i)) $$ HR
  iapply (Rounds.cell_close ER (Rd m) (Set.mem_univ (K (c, i))) (fun h => h) (R := 0) (duties_unused m _ hu))
  isplitr; · iexact HI
  iexact Hat

/-! ## What the branches leave, stated for every device -/

/-- What the halo buffer of device `c` holds when it is read: zeros on the first device, elsewhere the last eight rows of
    the block of the device before. -/
def haloOf (c : Dev nD) : S2x8x1024.Idx → Elt F .bf16 := if 0 < c.val then tailOf m (prv c) else k0_pay1 (F := F)

/-- The halo buffer after the signal: gone with it, kept on the first device. -/
def haloLeft (c : Dev nD) : sProp 𝕄 := if 0 < c.val then iprop(emp) else iprop(∃ f, haloPts c f)
/-- The same once the first device has cleared it. -/
def haloZero (c : Dev nD) : sProp 𝕄 := if 0 < c.val then iprop(emp) else haloPts c (haloOf m c)
/-- The credit of the barrier unit, on the devices that wait for one. -/
def credBar (c : Dev nD) : sProp 𝕄 := if c.val < 7 then cred (tallyAt (barCell c) () 1) else iprop(emp)
/-- The credit of the halo, on the devices that wait for one. -/
def credRecv (c : Dev nD) : sProp 𝕄 := if 0 < c.val then cred (tallyAt (recvCell c) () N) else iprop(emp)

abbrev stageS : DmaSem sig := cc0_scratch8.sem
/-- The staging copy of the send buffer under way: at its wait it delivers the buffer holding the block's last rows. -/
abbrev staging (c : Dev nD) : sProp 𝕄 := Transfers.Flight countersEmb (c : Thread nD τ) (.dma stageS) () N (sendPts c (tailOf m c))
/-- After the sending branch: the send under way, or on the last device the staging copy still. -/
def staged (c : Dev nD) : sProp 𝕄 :=
  if c.val < 7 then iprop(semVal ((c : Thread nD τ), .dma stageS) 0 ∗ cred (tallyAt (sendCell c) () N)) else staging m c
/-- The send buffer while the send is under way; on the last device, which sends nothing, the buffer itself. -/
def sent (c : Dev nD) : sProp 𝕄 := if c.val < 7 then cred (tallyAt (sendCell c) () N) else sendPts c (tailOf m c)

/-- A core's debts, whatever it has waited for so far. -/
abbrev owing (c : Dev nD) (O : CellTallies nD τ sig Unit) : sProp 𝕄 := iprop(∃ W : Waits sig Unit, owes (c : Thread nD τ) O W)

/-! ## The signal to the device before -/

abbrev signalProg (c : Dev nD) (h : k0_cond1 c = 1#1) : Prog (TpuEff nD τ sig (Elt F) Λ₀ .tc) PUnit :=
  semSignalWord (⟨k0_dev1 c, k0_dev1_lt c h⟩ : Dev nD) barS 1#32

/-- Taken, by every device but the first: the unit is paid to the device before, and the halo buffer goes with it. -/
theorem step_signal (c : Dev nD) (K : Dev nD × Fin 3 → ℕ) (h : k0_cond1 c = 1#1) :
    iprop(records m K ∗ owing (F := F) c (O₀ c) ∗ dutyTok ER (barCell (prv c)) 0 () ∗ ∃ f, haloPts c f)
      ⊢ wpc (F := F) c (signalProg c h) (fun _ => iprop(owing (F := F) c (Osend c) ∗ haloLeft c)) := by
  have hc := (cond1_iff c).mp h
  unfold wpc signalProg semSignalWord
  iintro ⟨#HR, ⟨%W, HO⟩, Htok, ⟨%f, Hf⟩⟩
  ihave #HI := (inv_at m K (prv c, 0)) $$ HR
  ihave #Hr := (reached_at m K (prv c, 0)) $$ HR
  simp only [dev1_eq c h]
  iapply (Rounds.wp_signal 𝒱₀ ER (Rd m) (c : Thread nD τ) none (dst := (prv c : Thread nD τ)) (κ := K (prv c, 0)) (d := ())
      (by rw [duties_used m _ (used_bar _ (prv_lt c hc))]; exact Finset.mem_singleton_self _) ((amount_bar m (prv c)).trans (by decide)) ()
      (Osend c) (O₀_pos_dev hc)) $$ [HO Htok Hf]
  · isplitr; · iexact HI
    isplitl [HO]; · iexact HO
    isplitl [Htok]; · iexact Htok
    isplitl [Hf]
    · rw [payload_bar, nxt_prv]; iexists f; iexact Hf
    iexact Hr
  iintro HO
  rw [wp_ret]; imodintro
  isplitl [HO]; · iexists W; iexact HO
  unfold haloLeft; rw [if_pos hc]; iempintro

/-- Skipped, by the first device: it owes no unit and keeps its halo buffer. -/
theorem skip_signal (c : Dev nD) (K : Dev nD × Fin 3 → ℕ) (h : ¬ k0_cond1 c = 1#1) :
    iprop(records m K ∗ owing (F := F) c (O₀ c) ∗ dutyTok ER (barCell (prv c)) 0 () ∗ ∃ f, haloPts c f)
      ⊢ iprop(|={Set.univ}=> (owing (F := F) c (Osend c) ∗ haloLeft c)) := by
  have hc : ¬ 0 < c.val := fun h' => h ((cond1_iff c).mpr h')
  rw [O₀_zero_dev hc]; unfold haloLeft; rw [if_neg hc]
  iintro ⟨-, HO, -, Hf⟩
  imodintro
  isplitl [HO] <;> iassumption

/-! ## The halo copy to the device after -/

omit [FloatOps F] in
/-- A whole copy from the send buffer into a halo buffer leaves the send buffer's contents there. -/
theorem landed_eq (c : Dev nD) (fd : Buf (Elt F) ((hM : Memref sig .tc .vmem S2x8x1024 .bf16).view.loc (c : Thread nD τ))) (fs : (cc0_scratch3 : Ref sig .tc).ty.Contents (Elt F)) :
    (hM : Memref sig .tc .vmem S2x8x1024 .bf16).view.write (Elt F) fd ((sM : Memref sig .tc .vmem S2x8x1024 .bf16).view.read (Elt F) fs) Finset.univ = fs := by
  show (View.whole cc0_scratch2).write (Elt F) fd ((View.whole cc0_scratch3).read (Elt F) fs) Finset.univ = fs
  rw [View.read_whole]
  exact View.write_whole_univ _ _ _

/-- `Rounds.wp_send_pointsTo` at the halo copy, addressed to `n = nxt c`. -/
theorem wp_send_halo (c n : Dev nD) (hn : n = nxt c) (hc : c.val < 7) (K : Dev nD × Fin 3 → ℕ)
    {hsc : (hM : Memref sig (Dev.tc n : Thread nD τ).2.kind .vmem S2x8x1024 .bf16).view.ref.isScScratch = false}
    {hsrc : (sM : Memref sig .tc .vmem S2x8x1024 .bf16).view.WordExact} {hdst : (hM : Memref sig .tc .vmem S2x8x1024 .bf16).view.WordExact}
    {hsem : DmaTarget.Typed .vmem (.dma recvS.sem) (.remote (Dev.tc n : Thread nD τ) (hM : Memref sig .tc .vmem S2x8x1024 .bf16) (.dma sendS.sem) hsc)}
    {α : Type} {Q : α → sProp 𝕄} {k : PUnit → Prog (TpuEff nD τ sig (Elt F) Λ₀ .tc) α}
    (fn : S2x8x1024.Idx → Elt F .bf16) (W : Waits sig Unit) :
    iprop(records m K ∗ sendPts c (tailOf m c) ∗ haloPts (nxt c) fn ∗ owes (c : Thread nD τ) (tallyAt (recvCell (nxt c)) () N) W
        ∗ dutyTok ER (sendCell c) 0 () ∗ dutyTok ER (recvCell (nxt c)) 0 ())
      ⊢ iprop(((cred (tallyAt (sendCell c) () N) ∗ owes (c : Thread nD τ) 0 W) -∗ wpc c (k ⟨⟩) Q)
          -∗ wpc c (.op (.enqueueDma sM (.remote (Dev.tc n : Thread nD τ) hM (.dma sendS.sem) hsc) (.dma recvS.sem) hsrc hdst hsem) k) Q) := by
  subst hn
  iintro ⟨#HR, Hs, Hh, HO, Ht1, Ht2⟩
  ihave #HI1 := (inv_at m K (c, 1)) $$ HR
  ihave #Hr1 := (reached_at m K (c, 1)) $$ HR
  ihave #HI2 := (inv_at m K (nxt c, 2)) $$ HR
  ihave #Hr2 := (reached_at m K (nxt c, 2)) $$ HR
  unfold sendPts haloPts wpc
  iapply (Rounds.wp_send_pointsTo 𝒱₀ ER (Rd m) (c : Thread nD τ) none (κ₁ := K (c, 1)) (κ₂ := K (nxt c, 2))
    (r₁ := 0) (r₂ := 0) (d₁ := ()) (d₂ := ()) (fd := fn)
    (by rw [duties_used m _ (used_send c hc)]; exact Finset.mem_singleton_self _)
    (by rw [duties_used m _ (used_recv (nxt c) (nxt_pos c hc))]; exact Finset.mem_singleton_self _)
    () () N rfl (amount_send m c) (amount_recv m (nxt c)) 0 (by rw [zero_add]) (W := W)
    (by rw [payload_send]; exact BI.Entails.refl _)
    (by
      rw [payload_recv, prv_nxt]
      unfold haloPts
      rw [landed_eq (nxt c)])) $$ [Hs Hh HO Ht1 Ht2]
  isplitr; · iexact HI1
  isplitr; · iexact HI2
  isplitl [Hs]; · iexact Hs
  isplitl [Hh]; · iexact Hh
  isplitl [HO]; · iexact HO
  isplitl [Ht1]; · iexact Ht1
  isplitr; · iexact Hr1
  isplitl [Ht2]; · iexact Ht2
  iexact Hr2

abbrev sendProg (c : Dev nD) (h : k0_cond2 c = 1#1) (hw₁ : (tailM : Memref sig .tc .hbm S2x8x1024 .bf16).view.WordExact)
    (hw₂ : (sM : Memref sig .tc .vmem S2x8x1024 .bf16).view.WordExact) (hw₃ : (hM : Memref sig .tc .vmem S2x8x1024 .bf16).view.WordExact) :
    Prog (TpuEff nD τ sig (Elt F) Λ₀ .tc) PUnit := do
  semWaitWord barS 1#32
  Prog.lift (.waitDma2 stageS tailM sM hw₁ hw₂)
  Prog.lift (.enqueueDma sM (.remote (Dev.tc (⟨k0_dev2 c, k0_dev2_lt c h⟩ : Dev nD)) hM (.dma sendS.sem)) (.dma recvS.sem) hw₂ hw₃ ⟨⟨rfl, Or.inl rfl⟩, trivial⟩)

/-- What a device enters its sending branch with. -/
def preSend (K : Dev nD × Fin 3 → ℕ) (c : Dev nD) : sProp 𝕄 :=
  iprop(records m K ∗ levAts L lv ∗ owing (F := F) c (Osend c) ∗ atPos ER (barCell c) 0 ∅ 0 ∗ credBar c ∗ staging m c
    ∗ dutyTok ER (recvCell (nxt c)) 0 () ∗ dutyTok ER (sendCell c) 0 ())
/-- What it leaves it with. -/
def postSend (c : Dev nD) : sProp 𝕄 := iprop(owing (F := F) c 0 ∗ semVal (barCell c) 0 ∗ staged m c)

/-- The staging semaphore is not the receive semaphore. -/
theorem stage_ne_recv : (SemLoc.dma stageS : SemLoc sig) ≠ .dma recvS.sem := by decide

set_option maxHeartbeats 800000 in
/-- Taken, by every device but the last: it waits for the unit, then for the staging copy, and starts the remote copy. -/
theorem step_send (c : Dev nD) (K : Dev nD × Fin 3 → ℕ) (h : k0_cond2 c = 1#1) {hw₁ hw₂ hw₃} :
    preSend m K c ⊢ wpc (F := F) c (sendProg c h hw₁ hw₂ hw₃) (fun _ => postSend m c) := by
  have hc := (cond2_iff c).mp h
  unfold preSend sendProg wpc
  simp only [semWaitWord, Prog.lift, Prog.bind_op, Prog.bind_ret, Prog.pure_eq_ret]
  rw [Osend_lt hc, credBar, if_pos hc]
  iintro ⟨#HR, #Hlev, ⟨%W, HO⟩, HatB, HcB, Hst, HtV, HtS⟩
  iapply (wp_wait_close m c K 0 (used_bar c hc) (wpE_semWait_eq 𝒱₀ (c : Thread nD τ) none Set.univ) ((amount_bar m c).trans (by decide))) $$ [HcB HO HatB]
  · isplitr; · iexact HR
    isplitl [HcB]; · iexact HcB
    isplitl [HO]; · iexact HO
    isplitr; · rw [← Osend_lt hc]; iapply (mayWait_bar c); iexact Hlev
    iexact HatB
  iintro ⟨HO, HzB, Hp⟩
  ihave Hp' := (Entails.of_eq (payload_bar m c)) $$ Hp
  icases Hp' with ⟨%fn, Hh⟩
  iapply (Transfers.wp_waitLocalO countersEmb 𝒱₀ (c : Thread nD τ) none () (N := N) (by decide)) $$ [Hst HO]
  · isplitl [Hst]; · iexact Hst
    isplitl [HO]; · iexact HO
    iapply (mayWait_stage c stageS stage_ne_recv _ (.inr (.inl (Osend_lt hc).symm))); iexact Hlev
  iintro ⟨Hs, Hz, HO⟩
  iapply (wp_send_halo m c _ (dev2_eq c h) hc K fn _) $$ [Hs Hh HO HtS HtV]
  · isplitr; · iexact HR
    isplitl [Hs]; · iexact Hs
    isplitl [Hh]; · iexact Hh
    isplitl [HO]; · iexact HO
    isplitl [HtS] <;> iassumption
  iintro ⟨HcS, HO⟩
  unfold wpc
  rw [wp_ret]; imodintro
  unfold postSend staged; rw [if_pos hc]
  isplitl [HO]; · iexists _; iexact HO
  isplitl [HzB]; · iexact HzB
  isplitl [Hz] <;> iassumption

/-- Skipped, by the last device: its staging copy stays under way. -/
theorem skip_send (c : Dev nD) (K : Dev nD × Fin 3 → ℕ) (h : ¬ k0_cond2 c = 1#1) :
    preSend m K c ⊢ iprop(|={Set.univ}=> postSend m c) := by
  have hc : ¬ c.val < 7 := fun h' => h ((cond2_iff c).mpr h')
  unfold preSend postSend staged
  rw [Osend_last hc, if_neg hc]
  iintro ⟨#HR, -, HO, HatB, -, Hst, -, -⟩
  imod (close_unused m c K 0 (unused_bar c hc)) $$ [HatB] with Hz
  · isplitr; · iexact HR
    iexact HatB
  imodintro
  isplitl [HO]; · iexact HO
  isplitl [Hz] <;> iassumption

/-! ## The words the later branches test -/

/-- The device's place in the ring, as the body computes it. -/
abbrev placeW (c : Dev nD) : BitVec 32 := Scalar.remsi (Scalar.divsi (Dev.word c) 1#32) 8#32
/-- The body's test for the last device. -/
theorem last_iff (c : Dev nD) : Scalar.cmpi .ne (Scalar.extui (Scalar.cmpi .eq (placeW c) 7#32) : BitVec 32) 0#32 = 1#1 ↔ ¬ c.val < 7 := by revert c; decide
/-- The body's test for the first device. -/
theorem first_iff (c : Dev nD) : Scalar.cmpi .ne (Scalar.extui (Scalar.cmpi .eq (placeW c) 0#32) : BitVec 32) 0#32 = 1#1 ↔ ¬ 0 < c.val := by revert c; decide
/-- The body's test for the devices after the first. -/
theorem later_iff (c : Dev nD) : Scalar.cmpi .ne (Scalar.extui (Scalar.cmpi .sgt (placeW c) 0#32) : BitVec 32) 0#32 = 1#1 ↔ 0 < c.val := by revert c; decide
/-- The body's test for the devices before the last. -/
theorem notLast_iff (c : Dev nD) : Scalar.cmpi .ne (Scalar.extui (Scalar.cmpi .slt (placeW c) 7#32) : BitVec 32) 0#32 = 1#1 ↔ c.val < 7 := by revert c; decide

/-! ## The last device drains its staging copy -/

abbrev drainProg (hw₁ : (tailM : Memref sig .tc .hbm S2x8x1024 .bf16).view.WordExact) (hw₂ : (sM : Memref sig .tc .vmem S2x8x1024 .bf16).view.WordExact) :
    Prog (TpuEff nD τ sig (Elt F) Λ₀ .tc) PUnit := Prog.lift (.waitDma2 stageS tailM sM hw₁ hw₂)

/-- Taken, by the last device: it waits for its staging copy and has its send buffer. -/
theorem step_drain (c : Dev nD) (hc : ¬ c.val < 7) {hw₁ hw₂} :
    iprop(owing (F := F) c 0 ∗ staged m c)
      ⊢ wpc (F := F) c (drainProg hw₁ hw₂) (fun _ => iprop(owing (F := F) c 0 ∗ semVal ((c : Thread nD τ), .dma stageS) 0 ∗ sent m c)) := by
  unfold wpc drainProg staged sent
  rw [if_neg hc, if_neg hc]
  iintro ⟨⟨%W, HO⟩, Hst⟩
  iapply (Transfers.wp_waitLocalO countersEmb 𝒱₀ (c : Thread nD τ) none () (N := N) (by decide)) $$ [Hst HO]
  · isplitl [Hst]; · iexact Hst
    isplitl [HO]; · iexact HO
    rw [MayWait_zero]; iempintro
  iintro ⟨Hs, Hz, HO⟩
  rw [wp_ret]; imodintro
  isplitl [HO]; · iexists _; iexact HO
  isplitl [Hz] <;> iassumption

/-- Skipped, by the others: the staging copy was waited for before the send. -/
theorem skip_drain (c : Dev nD) (hc : c.val < 7) :
    iprop(owing (F := F) c 0 ∗ staged m c)
      ⊢ iprop(|={Set.univ}=> (owing (F := F) c 0 ∗ semVal ((c : Thread nD τ), .dma stageS) 0 ∗ sent m c)) := by
  unfold staged sent
  rw [if_pos hc, if_pos hc]
  iintro ⟨HO, Hz, Hc⟩
  imodintro
  isplitl [HO]; · iexact HO
  isplitl [Hz] <;> iassumption

/-! ## The first device clears its halo buffer -/

abbrev haloR : Rect S2x8x1024 := Rect.unit (s := S2x8x1024) ![0, 0, 0] S2x8x1024.size inb_S2x8x1024_S2x8x1024_0_0_0
abbrev zeroProg (hl : (hM : Memref sig .tc .vmem S2x8x1024 .bf16).view.LoadsAt haloR.toLoadRect)
    (hs : ((hM : Memref sig .tc .vmem S2x8x1024 .bf16).access haloR).Stores Finset.univ) (hx : (Finset.univ : Finset haloR.shape.Idx) = Finset.univ ∨ ∀ a, haloR.stride a = 1) :
    Prog (TpuEff nD τ sig (Elt F) Λ₀ .tc) PUnit := do
  let _v : Vec F S2x8x1024 .bf16 ← Prog.lift (.load hM haloR.toLoadRect hl)
  Prog.lift (.store hM haloR (k0_pay1 (F := F)) Finset.univ hs hx)

omit [FloatOps F] in
/-- A store of the whole halo buffer leaves what was stored. -/
theorem cleared_eq (f : S2x8x1024.Idx → Elt F .bf16) (w : haloR.shape.Idx → Elt F .bf16) :
    (hM : Memref sig .tc .vmem S2x8x1024 .bf16).view.writes (Elt F) f [⟨haloR, w⟩] = w := by
  have h := View.read_writes_full (Val := Elt F) (s := S2x8x1024) (View.whole cc0_scratch2) f (off := ![0, 0, 0]) inb_S2x8x1024_S2x8x1024_0_0_0 w []
  rw [View.read_whole] at h
  exact h

/-- Taken, by the first device: its halo buffer holds zeros. -/
theorem step_zero (c : Dev nD) (hc : ¬ 0 < c.val) {hl hs hx} :
    haloLeft c ⊢ wpc (F := F) c (zeroProg hl hs hx) (fun _ => haloZero m c) := by
  unfold haloLeft haloZero haloOf zeroProg wpc
  rw [if_neg hc, if_neg hc, if_neg hc]
  iintro ⟨%f, Hh⟩
  unfold haloPts
  sl_exec
  rw [wp_ret]; imodintro
  rw [cleared_eq]
  iexact Hh

/-- Skipped, by the others: their halo buffer is with the device before. -/
theorem skip_zero (c : Dev nD) (hc : 0 < c.val) : haloLeft c ⊢ (iprop(|={Set.univ}=> haloZero m c) : sProp 𝕄) := by
  unfold haloLeft haloZero
  rw [if_pos hc, if_pos hc]
  iintro -; imodintro; iempintro

/-! ## The wait for the halo -/

abbrev recvProg (hw₁ : (sM : Memref sig .tc .vmem S2x8x1024 .bf16).view.WordExact) (hw₂ : (hM : Memref sig .tc .vmem S2x8x1024 .bf16).view.WordExact) :
    Prog (TpuEff nD τ sig (Elt F) Λ₀ .tc) PUnit := Prog.lift (.waitDma2 recvS.sem sM hM hw₁ hw₂)

def preRecv (K : Dev nD × Fin 3 → ℕ) (c : Dev nD) : sProp 𝕄 :=
  iprop(records m K ∗ owing (F := F) c 0 ∗ credRecv c ∗ atPos ER (recvCell c) 0 ∅ 0 ∗ haloZero m c)
def postRecv (c : Dev nD) : sProp 𝕄 := iprop(owing (F := F) c 0 ∗ haloPts c (haloOf m c) ∗ semVal (recvCell c) 0)

/-- Taken, by every device but the first: the halo buffer comes back with the last rows of the block before. -/
theorem step_recv (c : Dev nD) (K : Dev nD × Fin 3 → ℕ) (hc : 0 < c.val) {hw₁ hw₂} :
    preRecv m K c ⊢ wpc (F := F) c (recvProg hw₁ hw₂) (fun _ => postRecv m c) := by
  unfold preRecv postRecv recvProg wpc credRecv haloZero haloOf
  rw [if_pos hc, if_pos hc, if_pos hc]
  iintro ⟨#HR, ⟨%W, HO⟩, Hcr, Hat, -⟩
  iapply (wp_wait_close m c K 2 (used_recv c hc) (wpE_waitDma2_eq 𝒱₀ (c : Thread nD τ) none Set.univ) (amount_recv m c)) $$ [Hcr HO Hat]
  · isplitr; · iexact HR
    isplitl [Hcr]; · iexact Hcr
    isplitl [HO]; · iexact HO
    isplitr; · rw [MayWait_zero]; iempintro
    iexact Hat
  iintro ⟨HO, Hz, Hp⟩
  ihave Hp' := (Entails.of_eq (payload_recv m c)) $$ Hp
  unfold wpc
  rw [wp_ret]; imodintro
  isplitl [HO]; · iexists _; iexact HO
  isplitl [Hp'] <;> iassumption

/-- Skipped, by the first device: its halo buffer holds the zeros already. -/
theorem skip_recv (c : Dev nD) (K : Dev nD × Fin 3 → ℕ) (hc : ¬ 0 < c.val) :
    preRecv m K c ⊢ iprop(|={Set.univ}=> postRecv m c) := by
  unfold preRecv postRecv haloZero
  rw [if_neg hc]
  iintro ⟨#HR, HO, -, Hat, Hh⟩
  imod (close_unused m c K 2 (unused_recv c hc)) $$ [Hat] with Hz
  · isplitr; · iexact HR
    iexact Hat
  imodintro
  isplitl [HO]; · iexact HO
  isplitl [Hh] <;> iassumption

/-! ## The wait for its own send -/

abbrev sendWaitProg (hw₁ : (hM : Memref sig .tc .vmem S2x8x1024 .bf16).view.WordExact) (hw₂ : (sM : Memref sig .tc .vmem S2x8x1024 .bf16).view.WordExact) :
    Prog (TpuEff nD τ sig (Elt F) Λ₀ .tc) PUnit := Prog.lift (.waitDma2 sendS.sem hM sM hw₁ hw₂)

def preDone (K : Dev nD × Fin 3 → ℕ) (c : Dev nD) : sProp 𝕄 :=
  iprop(records m K ∗ owing (F := F) c 0 ∗ atPos ER (sendCell c) 0 ∅ 0 ∗ sent m c)
def postDone (c : Dev nD) : sProp 𝕄 := iprop(owing (F := F) c 0 ∗ sendPts c (tailOf m c) ∗ semVal (sendCell c) 0)

/-- The send buffer's copy credit is the halo copy's. -/
theorem sM_credit : (sM : Memref sig .tc .vmem S2x8x1024 .bf16).view.dmaCredit = N := by decide

/-- Taken, by every device but the last: the send buffer comes back. -/
theorem step_done (c : Dev nD) (K : Dev nD × Fin 3 → ℕ) (hc : c.val < 7) {hw₁ hw₂} :
    preDone m K c ⊢ wpc (F := F) c (sendWaitProg hw₁ hw₂) (fun _ => postDone m c) := by
  unfold preDone postDone sendWaitProg wpc sent
  rw [if_pos hc]
  iintro ⟨#HR, ⟨%W, HO⟩, Hat, Hcr⟩
  iapply (wp_wait_close m c K 1 (used_send c hc) (k' := N) (fun Q => (wpE_waitDma2_eq 𝒱₀ (c : Thread nD τ) none Set.univ Q).trans (by rw [sM_credit])) (amount_send m c)) $$ [Hcr HO Hat]
  · isplitr; · iexact HR
    isplitl [Hcr]; · iexact Hcr
    isplitl [HO]; · iexact HO
    isplitr; · rw [MayWait_zero]; iempintro
    iexact Hat
  iintro ⟨HO, Hz, Hp⟩
  ihave Hp' := (Entails.of_eq (payload_send m c)) $$ Hp
  unfold wpc
  rw [wp_ret]; imodintro
  isplitl [HO]; · iexists _; iexact HO
  isplitl [Hp'] <;> iassumption

/-- Skipped, by the last device: it has its send buffer. -/
theorem skip_done (c : Dev nD) (K : Dev nD × Fin 3 → ℕ) (hc : ¬ c.val < 7) :
    preDone m K c ⊢ iprop(|={Set.univ}=> postDone m c) := by
  unfold preDone postDone sent
  rw [if_neg hc]
  iintro ⟨#HR, HO, Hat, Hs⟩
  imod (close_unused m c K 1 (unused_send c hc)) $$ [Hat] with Hz
  · isplitr; · iexact HR
    iexact Hat
  imodintro
  isplitl [HO]; · iexact HO
  isplitl [Hs] <;> iassumption

end Cert.Conv

end
-- ==== Proof.Contents.lean ====
/-
# What the body computes

The contents that the run of the body leaves, as plain functions of the device's block of `x`, its halo and the taps: the
window of 259 rows that a chunk of 256 output rows is computed from, the chunk, and the whole output block. The lemmas read
one ring slot after the copy into it, and one output slab after the copy out of it, at any slot and chunk.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Exchange
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.VecWindow
public import Idealize.ShloMosaic.Lib.WritesUnit
public import Idealize.ShloMosaic.Lib.ValueLayout
public import Idealize.ShloMosaic.Lib.Pointwise.ShapeOpsCore

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A slot of a ring, written through its squeezed view or read through it -/

section Squeezed
variable {Val : EltTy → Type} {sig' : RefSig} {κ : Kind} {sp : Space} {e : EltTy} {d : Fin 4 → ℕ} (v : View sig' κ sp ⟨4, d⟩ e)
  {p q r : ℕ} {off : Fin 4 → ℕ} (inb : ∀ a, off a + (⟨4, ![1, p, q, r]⟩ : Shape).size a ≤ (⟨4, d⟩ : Shape).size a)
  (h : (⟨3, ![p, q, r]⟩ : Shape).numel = (Rect.unit (s := ⟨4, d⟩) off (⟨4, ![1, p, q, r]⟩ : Shape).size inb).shape.numel)

omit [FloatOps F] in
/-- Where the squeezed slot's index `y` lies in the ring. -/
theorem emb_squeezed (y : (⟨3, ![p, q, r]⟩ : Shape).Idx) :
    (Rect.unit (s := ⟨4, d⟩) off (⟨4, ![1, p, q, r]⟩ : Shape).size inb).emb (Shape.reshapeEquiv h y)
      = (Rect.unit (s := ⟨4, d⟩) off (⟨4, ![1, p, q, r]⟩ : Shape).size inb).emb (Fin.cons ⟨0, Nat.one_pos⟩ y) :=
  congrArg _ (Shape.reshapeEquiv_cons_one (d := ![p, q, r]) h y)

omit [FloatOps F] in
/-- An element of the slot reads what was written at its place in the slot. -/
theorem read_write_squeezed (f : v.ty.Contents Val) (w : (⟨3, ![p, q, r]⟩ : Shape).Idx → Val e) (i : (⟨4, d⟩ : Shape).Idx)
    (y : (⟨3, ![p, q, r]⟩ : Shape).Idx) (h0 : (i 0).val = off 0) (h1 : (i 1).val = off 1 + (y 0).val)
    (h2 : (i 2).val = off 2 + (y 1).val) (h3 : (i 3).val = off 3 + (y 2).val) :
    v.read Val (((v.slice (Rect.unit (s := ⟨4, d⟩) off (⟨4, ![1, p, q, r]⟩ : Shape).size inb)).reshape ⟨3, ![p, q, r]⟩ h).write Val f w Finset.univ) i = w y := by
  have hi : (Rect.unit (s := ⟨4, d⟩) off (⟨4, ![1, p, q, r]⟩ : Shape).size inb).emb (Shape.reshapeEquiv h y) = i := by
    rw [emb_squeezed]
    funext a
    refine Fin.ext ?_
    match a with
    | ⟨0, _⟩ => show off 0 + 1 * 0 = (i 0).val; omega
    | ⟨1, _⟩ => show off 1 + 1 * (y 0).val = (i 1).val; omega
    | ⟨2, _⟩ => show off 2 + 1 * (y 1).val = (i 2).val; omega
    | ⟨3, _⟩ => show off 3 + 1 * (y 2).val = (i 3).val; omega
  rw [← hi]
  exact congrFun (View.read_write_univ (v := (v.slice (Rect.unit (s := ⟨4, d⟩) off (⟨4, ![1, p, q, r]⟩ : Shape).size inb)).reshape ⟨3, ![p, q, r]⟩ h) f w) y

omit [FloatOps F] in
/-- The squeezed slot reads the newest piece, a store of the whole slot. -/
theorem read_squeezed_writes (f : v.ty.Contents Val) (w : (Rect.unit (s := ⟨4, d⟩) off (⟨4, ![1, p, q, r]⟩ : Shape).size inb).shape.Idx → Val e)
    (L : List (View.Piece Val ⟨4, d⟩ e)) (y : (⟨3, ![p, q, r]⟩ : Shape).Idx) :
    ((v.slice (Rect.unit (s := ⟨4, d⟩) off (⟨4, ![1, p, q, r]⟩ : Shape).size inb)).reshape ⟨3, ![p, q, r]⟩ h).read Val
        (v.writes Val f (⟨Rect.unit (s := ⟨4, d⟩) off (⟨4, ![1, p, q, r]⟩ : Shape).size inb, w⟩ :: L)) y = w (Fin.cons ⟨0, Nat.one_pos⟩ y) := by
  show v.read Val _ ((Rect.unit (s := ⟨4, d⟩) off (⟨4, ![1, p, q, r]⟩ : Shape).size inb).emb (Shape.reshapeEquiv h y)) = _
  rw [emb_squeezed]
  exact View.read_writes_cons_emb v f _ w L _

end Squeezed

/-! ## The contents -/

/-- The four taps, as the body takes them from the filter. -/
abbrev tap0 (kf : S4x1024.Idx → Elt F .bf16) : FVec F S1x1x1024 .bf16 := k0_pay3 kf
abbrev tap1 (kf : S4x1024.Idx → Elt F .bf16) : FVec F S1x1x1024 .bf16 := k0_pay4 kf
abbrev tap2 (kf : S4x1024.Idx → Elt F .bf16) : FVec F S1x1x1024 .bf16 := k0_pay5 kf
abbrev tap3 (kf : S4x1024.Idx → Elt F .bf16) : FVec F S1x1x1024 .bf16 := k0_pay6 kf

set_option backward.proofsInPublic true in
/-- Row `r` of the window of chunk `g`: row `256 g + r - 3` of the device's block, the rows before its first one being the
    last three of the halo. -/
def segRow (c : Dev nD) (g : Fin 16) (b : Fin 2) (r : Fin 259) (l : Fin 1024) : Elt F .bf16 :=
  if h : 3 ≤ 256 * g.val + r.val then (xAt m c : S2x4096x1024.Idx → Elt F .bf16) (ix3 b (⟨256 * g.val + r.val - 3, by omega⟩ : Fin 4096) l)
  else (haloOf m c) (ix3 b (⟨5 + r.val, by omega⟩ : Fin 8) l)

/-- The window of 259 rows that chunk `g` is computed from. -/
def segOf (c : Dev nD) (g : Fin 16) : S1x2x259x1024.Idx → Elt F .bf16 := fun j => segRow m c g (j 1) (j 2) (j 3)

/-- Chunk `g` of the output block: the convolution of its window with the taps, and the activation. -/
def chunk (c : Dev nD) (kf : S4x1024.Idx → Elt F .bf16) (g : Fin 16) : S2x256x1024.Idx → Elt F .bf16 :=
  fun y => k0_pay7 (tap0 kf) (tap1 kf) (tap2 kf) (tap3 kf) (segOf m c g) (Fin.cons (⟨0, Nat.one_pos⟩ : Fin 1) y : S1x2x256x1024.Idx)

set_option backward.proofsInPublic true in
/-- The output block of device `c`. -/
def outOf (c : Dev nD) (kf : S4x1024.Idx → Elt F .bf16) : S2x4096x1024.Idx → Elt F .bf16 :=
  fun i => chunk m c kf ⟨(i 1).val / 256, Nat.div_lt_of_lt_mul (i 1).isLt⟩ (ix3 (i 0) (⟨(i 1).val % 256, Nat.mod_lt _ (by decide)⟩ : Fin 256) (i 2))

/-! ## One slot of the input ring -/

abbrev xB : Memref sig .tc .vmem S8x2x264x1024 .bf16 := Memref.whole cc0_scratch0
abbrev oB : Memref sig .tc .vmem S8x2x256x1024 .bf16 := Memref.whole cc0_scratch1
abbrev vM : Memref sig .tc .hbm S2x4096x1024 .bf16 := Memref.whole main_v1

/-- The slot's rows 5 to 263, after the copy of the 264 rows from row `o = 256 g - 8` of the block, are the window of chunk `g`. -/
theorem seg_loaded (c : Dev nD) {s o : ℕ} (g : Fin 16) (ho : o + 8 = 256 * g.val)
    {inbR : ∀ a, (![s, 0, 5, 0] : Fin 4 → ℕ) a + S1x2x259x1024.size a ≤ S8x2x264x1024.size a}
    {inbS : ∀ a, (![s, 0, 0, 0] : Fin 4 → ℕ) a + S1x2x264x1024.size a ≤ S8x2x264x1024.size a} {hs}
    {hq : (Rect.unit (s := S8x2x264x1024) ![s, 0, 0, 0] S1x2x264x1024.size inbS).shape.Squeezes S2x264x1024}
    {inbX : ∀ a, (![0, o, 0] : Fin 3 → ℕ) a + S2x264x1024.size a ≤ S2x4096x1024.size a} {hx} (f : S8x2x264x1024.Idx → Elt F .bf16) :
    (xB.view.readAt (Elt F) (Rect.unit (s := S8x2x264x1024) ![s, 0, 5, 0] S1x2x259x1024.size inbR).toLoadRect
      (View.write (Elt F) ((xB.slice (Rect.unit (s := S8x2x264x1024) ![s, 0, 0, 0] S1x2x264x1024.size inbS) hs).squeeze S2x264x1024 hq).view f
        ((xM.slice (Rect.unit (s := S2x4096x1024) ![0, o, 0] S2x264x1024.size inbX) hx).view.read (Elt F) (xAt m c)) Finset.univ) : S1x2x259x1024.Idx → Elt F .bf16)
      = segOf m c g := by
  funext j
  have hj0 : (j 0).val < 1 := (j 0).isLt
  have hj1 : (j 1).val < 2 := (j 1).isLt
  have hj2 : (j 2).val < 259 := (j 2).isLt
  have hj3 : (j 3).val < 1024 := (j 3).isLt
  have hrow : 3 ≤ 256 * g.val + (j 2).val := by omega
  refine (read_write_squeezed (Val := Elt F) (d := ![8, 2, 264, 1024]) (View.whole cc0_scratch0) inbS hq.numel_eq f _ _
    (ix3 (⟨(j 1).val, hj1⟩ : Fin 2) (⟨5 + (j 2).val, by omega⟩ : Fin 264) (⟨(j 3).val, hj3⟩ : Fin 1024)) ?_ ?_ ?_ ?_).trans ?_
  · show s + 1 * (j 0).val = s; omega
  · show 0 + 1 * (j 1).val = 0 + (j 1).val; omega
  · show 5 + 1 * (j 2).val = 0 + (5 + (j 2).val); omega
  · show 0 + 1 * (j 3).val = 0 + (j 3).val; omega
  unfold segOf segRow
  rw [dif_pos hrow]
  show (xAt m c : S2x4096x1024.Idx → Elt F .bf16) _ = _
  refine congrArg (xAt m c : S2x4096x1024.Idx → Elt F .bf16) ?_
  funext a
  refine Fin.ext ?_
  match a with
  | ⟨0, _⟩ => show 0 + 1 * (j 1).val = (j 1).val; omega
  | ⟨1, _⟩ => show o + 1 * (5 + (j 2).val) = 256 * g.val + (j 2).val - 3; omega
  | ⟨2, _⟩ => show 0 + 1 * (j 3).val = (j 3).val; omega

/-- The last slot's rows 5 to 263, after the copy of the block's first 256 rows below row 8 and the store of the halo's last
    three rows at rows 5 to 7, are the window of chunk 0. -/
theorem seg_patched (c : Dev nD)
    {inbR : ∀ a, (![7, 0, 5, 0] : Fin 4 → ℕ) a + S1x2x259x1024.size a ≤ S8x2x264x1024.size a}
    {inbS : ∀ a, (![7, 0, 8, 0] : Fin 4 → ℕ) a + S1x2x256x1024.size a ≤ S8x2x264x1024.size a} {hs}
    {hq : (Rect.unit (s := S8x2x264x1024) ![7, 0, 8, 0] S1x2x256x1024.size inbS).shape.Squeezes S2x256x1024}
    {inbX : ∀ a, (![0, 0, 0] : Fin 3 → ℕ) a + S2x256x1024.size a ≤ S2x4096x1024.size a} {hx}
    {inbP : ∀ a, (![7, 0, 4, 0] : Fin 4 → ℕ) a + S1x2x4x1024.size a ≤ S8x2x264x1024.size a} {hu}
    {inbH : ∀ a, (![0, 5, 0] : Fin 3 → ℕ) a + S2x3x1024.size a ≤ S2x8x1024.size a} {hc}
    (f : S8x2x264x1024.Idx → Elt F .bf16) (old : S1x2x4x1024.Idx → Elt F .bf16) :
    (xB.view.readAt (Elt F) (Rect.unit (s := S8x2x264x1024) ![7, 0, 5, 0] S1x2x259x1024.size inbR).toLoadRect
      (xB.view.writes (Elt F)
        (View.write (Elt F) ((xB.slice (Rect.unit (s := S8x2x264x1024) ![7, 0, 8, 0] S1x2x256x1024.size inbS) hs).squeeze S2x256x1024 hq).view f
          ((xM.slice (Rect.unit (s := S2x4096x1024) ![0, 0, 0] S2x256x1024.size inbX) hx).view.read (Elt F) (xAt m c)) Finset.univ)
        [⟨Rect.unit (s := S8x2x264x1024) ![7, 0, 4, 0] S1x2x4x1024.size inbP,
          updateSlice old (shapeCast S1x2x3x1024 (hM.view.readAt (Elt F) (Rect.unit (s := S2x8x1024) ![0, 5, 0] S2x3x1024.size inbH).toLoadRect (haloOf m c)) hc)
            ![0, 0, 1, 0] hu⟩]) : S1x2x259x1024.Idx → Elt F .bf16)
      = segOf m c 0 := by
  funext j
  have hj0 : (j 0).val < 1 := (j 0).isLt
  have hj1 : (j 1).val < 2 := (j 1).isLt
  have hj2 : (j 2).val < 259 := (j 2).isLt
  have hj3 : (j 3).val < 1024 := (j 3).isLt
  by_cases hlow : 3 ≤ (j 2).val
  · refine (View.read_writes_cons_unit_of_not_mem (Val := Elt F) (s := S8x2x264x1024) (View.whole cc0_scratch0) _ (off := ![7, 0, 4, 0]) (size := S1x2x4x1024.size) inbP _ [] _ rfl 2 (Or.inr ?_)).trans ?_
    · show 4 + 4 ≤ 5 + 1 * (j 2).val; omega
    refine (read_write_squeezed (Val := Elt F) (d := ![8, 2, 264, 1024]) (View.whole cc0_scratch0) inbS hq.numel_eq f _ _
      (ix3 (⟨(j 1).val, hj1⟩ : Fin 2) (⟨(j 2).val - 3, by omega⟩ : Fin 256) (⟨(j 3).val, hj3⟩ : Fin 1024)) ?_ ?_ ?_ ?_).trans ?_
    · show 7 + 1 * (j 0).val = 7; omega
    · show 0 + 1 * (j 1).val = 0 + (j 1).val; omega
    · show 5 + 1 * (j 2).val = 8 + ((j 2).val - 3); omega
    · show 0 + 1 * (j 3).val = 0 + (j 3).val; omega
    unfold segOf segRow
    rw [dif_pos (show 3 ≤ 256 * (0 : Fin 16).val + (j 2).val from by show 3 ≤ 256 * 0 + (j 2).val; omega)]
    show (xAt m c : S2x4096x1024.Idx → Elt F .bf16) _ = _
    refine congrArg (xAt m c : S2x4096x1024.Idx → Elt F .bf16) ?_
    funext a
    refine Fin.ext ?_
    match a with
    | ⟨0, _⟩ => show 0 + 1 * (j 1).val = (j 1).val; omega
    | ⟨1, _⟩ => show 0 + 1 * ((j 2).val - 3) = 256 * 0 + (j 2).val - 3; omega
    | ⟨2, _⟩ => show 0 + 1 * (j 3).val = (j 3).val; omega
  · refine (View.read_writes_cons_unit_of_mem (Val := Elt F) (s := S8x2x264x1024) (View.whole cc0_scratch0) _ (off := ![7, 0, 4, 0]) (size := S1x2x4x1024.size) inbP _ [] _
      (ix4 (⟨0, Nat.one_pos⟩ : Fin 1) (⟨(j 1).val, hj1⟩ : Fin 2) (⟨1 + (j 2).val, by omega⟩ : Fin 4) (⟨(j 3).val, hj3⟩ : Fin 1024)) rfl (fun a => ?_)).trans ?_
    · match a with
      | ⟨0, _⟩ => show 7 + 1 * (j 0).val = 7 + 0; omega
      | ⟨1, _⟩ => show 0 + 1 * (j 1).val = 0 + (j 1).val; omega
      | ⟨2, _⟩ => show 5 + 1 * (j 2).val = 4 + (1 + (j 2).val); omega
      | ⟨3, _⟩ => show 0 + 1 * (j 3).val = 0 + (j 3).val; omega
    rw [updateSlice_apply, dif_pos (fun a => by
      match a with
      | ⟨0, _⟩ => exact ⟨Nat.zero_le _, Nat.one_pos⟩
      | ⟨1, _⟩ => exact ⟨Nat.zero_le _, (by show (j 1).val < 0 + 2; omega)⟩
      | ⟨2, _⟩ => exact ⟨(by show 1 ≤ 1 + (j 2).val; omega), (by show 1 + (j 2).val < 1 + 3; omega)⟩
      | ⟨3, _⟩ => exact ⟨Nat.zero_le _, (by show (j 3).val < 0 + 1024; omega)⟩)]
    rw [Shape.Idx.norm_def]
    refine Eq.trans (congrArg (shapeCast S1x2x3x1024 (hM.view.readAt (Elt F) (Rect.unit (s := S2x8x1024) ![0, 5, 0] S2x3x1024.size inbH).toLoadRect (haloOf m c)) hc) (a₂ := ix4 (⟨0, Nat.one_pos⟩ : Fin 1) (⟨(j 1).val, hj1⟩ : Fin 2) (⟨(j 2).val, by omega⟩ : Fin 3) (⟨(j 3).val, hj3⟩ : Fin 1024)) ?_) ?_
    · funext a
      refine Fin.ext ?_
      match a with
      | ⟨0, _⟩ => rfl
      | ⟨1, _⟩ => show (j 1).val - 0 = (j 1).val; omega
      | ⟨2, _⟩ => show 1 + (j 2).val - 1 = (j 2).val; omega
      | ⟨3, _⟩ => show (j 3).val - 0 = (j 3).val; omega
    refine (ValueIdx.shapeCast_abc_1abc_apply (m := 2) (a := 3) (b := 1024) _ hc (⟨0, Nat.one_pos⟩ : Fin 1) (⟨(j 1).val, hj1⟩ : Fin 2) (⟨(j 2).val, by omega⟩ : Fin 3) (⟨(j 3).val, hj3⟩ : Fin 1024)).trans ?_
    unfold segOf segRow
    rw [dif_neg (show ¬ 3 ≤ 256 * (0 : Fin 16).val + (j 2).val from by show ¬ 3 ≤ 256 * 0 + (j 2).val; omega)]
    show haloOf m c _ = haloOf m c _
    refine congrArg (haloOf m c) ?_
    funext a
    refine Fin.ext ?_
    match a with
    | ⟨0, _⟩ => show 0 + 1 * (j 1).val = (j 1).val; omega
    | ⟨1, _⟩ => show 5 + 1 * (j 2).val = 5 + (j 2).val; omega
    | ⟨2, _⟩ => show 0 + 1 * (j 3).val = (j 3).val; omega

omit [FloatOps F] in
/-- The body's load of the whole filter is the filter. -/
theorem taps_read {inb : ∀ a, (![0, 0] : Fin 2 → ℕ) a + S4x1024.size a ≤ S4x1024.size a} (kf : S4x1024.Idx → Elt F .bf16) :
    ((Memref.whole cc0_stg0_0).view.readAt (Elt F) (Rect.unit (s := S4x1024) ![0, 0] S4x1024.size inb).toLoadRect kf : S4x1024.Idx → Elt F .bf16) = kf := by
  funext j
  show kf _ = kf j
  refine congrArg kf ?_
  funext a
  refine Fin.ext ?_
  match a with
  | ⟨0, _⟩ => show 0 + 1 * (j 0).val = (j 0).val; omega
  | ⟨1, _⟩ => show 0 + 1 * (j 1).val = (j 1).val; omega

/-! ## One slab of the output -/

/-- A slab holding a chunk holds the output block there. -/
theorem slab_out (c : Dev nD) (kf : S4x1024.Idx → Elt F .bf16) {o : ℕ} (g : Fin 16) (ho : o = 256 * g.val)
    {inb : ∀ a, (![0, o, 0] : Fin 3 → ℕ) a + S2x256x1024.size a ≤ S2x4096x1024.size a} (f : S2x4096x1024.Idx → Elt F .bf16)
    (w : S2x256x1024.Idx → Elt F .bf16) (hw : w = chunk m c kf g) (i : S2x4096x1024.Idx)
    (hi : i ∈ (Rect.unit (s := S2x4096x1024) ![0, o, 0] S2x256x1024.size inb).set) :
    (vM.view.writes (Elt F) f [⟨Rect.unit (s := S2x4096x1024) ![0, o, 0] S2x256x1024.size inb, w⟩] : S2x4096x1024.Idx → Elt F .bf16) i = outOf m c kf i := by
  have hi1 : o ≤ (i 1).val ∧ (i 1).val < o + 256 := Rect.mem_set_unit.mp hi 1
  have hd : (i 1).val / 256 = g.val := by omega
  have hm : (i 1).val % 256 = (i 1).val - o := by omega
  subst hw
  have h := View.read_writes_cons_unit_of_mem (Val := Elt F) (s := S2x4096x1024) (View.whole main_v1) f (off := ![0, o, 0]) (size := S2x256x1024.size) inb (chunk m c kf g) [] i
    (ix3 (i 0) (⟨(i 1).val - o, by omega⟩ : Fin 256) (i 2)) rfl (fun a => by
      match a with
      | ⟨0, _⟩ => show (i 0).val = 0 + (i 0).val; omega
      | ⟨1, _⟩ => show (i 1).val = o + ((i 1).val - o); omega
      | ⟨2, _⟩ => show (i 2).val = 0 + (i 2).val; omega)
  rw [View.read_whole] at h
  refine h.trans ?_
  have hg : (⟨(i 1).val / 256, Nat.div_lt_of_lt_mul (i 1).isLt⟩ : Fin 16) = g := Fin.ext hd
  have hr : (⟨(i 1).val % 256, Nat.mod_lt _ (by decide)⟩ : Fin 256) = ⟨(i 1).val - o, by omega⟩ := Fin.ext hm
  unfold outOf
  rw [hg, hr]

/-- The chunk as the copy out of a slot of the output ring delivers it, when the slot was computed from the window of chunk `g`. -/
theorem chunk_read (c : Dev nD) (kf : S4x1024.Idx → Elt F .bf16) (g : Fin 16) {s : ℕ}
    {inbO : ∀ a, (![s, 0, 0, 0] : Fin 4 → ℕ) a + S1x2x256x1024.size a ≤ S8x2x256x1024.size a} {hs}
    {hq : (Rect.unit (s := S8x2x256x1024) ![s, 0, 0, 0] S1x2x256x1024.size inbO).shape.Squeezes S2x256x1024}
    (fo : S8x2x256x1024.Idx → Elt F .bf16) (w : S1x2x256x1024.Idx → Elt F .bf16) (L : List (View.Piece (Elt F) S8x2x256x1024 .bf16))
    (seg : S1x2x259x1024.Idx → Elt F .bf16) (hw : w = k0_pay7 (tap0 kf) (tap1 kf) (tap2 kf) (tap3 kf) seg) (hseg : seg = segOf m c g) :
    ((oB.slice (Rect.unit (s := S8x2x256x1024) ![s, 0, 0, 0] S1x2x256x1024.size inbO) hs).squeeze S2x256x1024 hq).view.read (Elt F)
        (oB.view.writes (Elt F) fo (⟨Rect.unit (s := S8x2x256x1024) ![s, 0, 0, 0] S1x2x256x1024.size inbO, w⟩ :: L))
      = chunk m c kf g := by
  subst hseg; subst hw
  funext y
  exact read_squeezed_writes (Val := Elt F) (d := ![8, 2, 256, 1024]) (View.whole cc0_scratch1) inbO hq.numel_eq fo _ L y

end Cert.Conv

end
-- ==== Proof.Body.lean ====
/-
# One device's run of the body

The body runs once, for every device: sixteen chunks pass through the two rings of eight slots, and the six conditional
stretches are taken from the lemmas of `Exchange`. It leaves the output block holding `outOf`, every scratch buffer back and
every semaphore at zero.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.VecWindow

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

/-! ## The buffers cut into slots and slabs -/

/-- Slot `s` of the input ring. -/
def xSlot (c : Dev nD) (s : ℕ) (inb : ∀ a, (![s, 0, 0, 0] : Fin 4 → ℕ) a + S1x2x264x1024.size a ≤ S8x2x264x1024.size a) (f : S8x2x264x1024.Idx → Elt F .bf16) : sProp 𝕄 :=
  (Memref.whole cc0_scratch0).view.loc (c : Thread nD τ) ↦[(Memref.whole cc0_scratch0).view.setOn (Rect.unit (s := S8x2x264x1024) ![s, 0, 0, 0] S1x2x264x1024.size inb).set]{fullShare} f
/-- Slot `s` of the output ring. -/
def oSlot (c : Dev nD) (s : ℕ) (inb : ∀ a, (![s, 0, 0, 0] : Fin 4 → ℕ) a + S1x2x256x1024.size a ≤ S8x2x256x1024.size a) (f : S8x2x256x1024.Idx → Elt F .bf16) : sProp 𝕄 :=
  (Memref.whole cc0_scratch1).view.loc (c : Thread nD τ) ↦[(Memref.whole cc0_scratch1).view.setOn (Rect.unit (s := S8x2x256x1024) ![s, 0, 0, 0] S1x2x256x1024.size inb).set]{fullShare} f
/-- The 256 rows of the output block from row `o`. -/
def slab (c : Dev nD) (o : ℕ) (inb : ∀ a, (![0, o, 0] : Fin 3 → ℕ) a + S2x256x1024.size a ≤ S2x4096x1024.size a) (f : S2x4096x1024.Idx → Elt F .bf16) : sProp 𝕄 :=
  (Memref.whole main_v1).view.loc (c : Thread nD τ) ↦[(Memref.whole main_v1).view.setOn (Rect.unit (s := S2x4096x1024) ![0, o, 0] S2x256x1024.size inb).set]{fullShare} f
/-- A share of the device's block of `x`, one for each copy that may be under way. -/
def xTok (c : Dev nD) (i : ℕ) : sProp 𝕄 :=
  (Memref.whole main_arg0).view.loc (c : Thread nD τ) ↦{Transfers.shareTokN fullShare i} xAt m c
/-- One of the device's own DMA semaphores at zero. -/
def dmaZero (c : Dev nD) (i : Fin 20) : sProp 𝕄 := semVal ((c : Thread nD τ), SemLoc.dma (i : DmaSem sig)) 0
/-- The filter's staging buffer. -/
def taps (c : Dev nD) (kf : S4x1024.Idx → Elt F .bf16) : sProp 𝕄 :=
  (Memref.whole cc0_stg0_0).view.loc (c : Thread nD τ) ↦[(Memref.whole cc0_stg0_0).view.set]{fullShare} kf

omit [FloatOps F] in
/-- The staging copy fills the whole send buffer with what it copies. -/
theorem staged_eq (f w : S2x8x1024.Idx → Elt F .bf16) :
    (sM : Memref sig .tc .vmem S2x8x1024 .bf16).view.writes (Elt F) f [⟨Rect.whole S2x8x1024, w⟩] = w := by
  have h := View.read_writes_whole (Val := Elt F) (View.whole cc0_scratch3) f w
  rwa [View.read_whole] at h

/-- A slab that a copy filled with a chunk holds the output block. -/
theorem slab_done (c : Dev nD) (kf : S4x1024.Idx → Elt F .bf16) {o : ℕ} (g : Fin 16) (ho : o = 256 * g.val)
    {inb : ∀ a, (![0, o, 0] : Fin 3 → ℕ) a + S2x256x1024.size a ≤ S2x4096x1024.size a} {f : S2x4096x1024.Idx → Elt F .bf16}
    {w : S2x256x1024.Idx → Elt F .bf16} (hw : w = chunk m c kf g) :
    ((Memref.whole main_v1).view.loc (c : Thread nD τ) ↦[(Memref.whole main_v1).view.setOn (Rect.unit (s := S2x4096x1024) ![0, o, 0] S2x256x1024.size inb).set]{fullShare}
        vM.view.writes (Elt F) f [⟨Rect.unit (s := S2x4096x1024) ![0, o, 0] S2x256x1024.size inb, w⟩] : sProp 𝕄)
      ⊢ slab c o inb (outOf m c kf) := by
  unfold slab
  refine Entails.of_eq (pointsTo_congr fun i hi => slab_out m c kf g ho f w hw i ?_)
  obtain ⟨j, hj, rfl⟩ := Finset.mem_map.mp hi
  exact hj

/-- The filter as the body loads it. -/
abbrev loaded (kf : S4x1024.Idx → Elt F .bf16) : S4x1024.Idx → Elt F .bf16 :=
  (Memref.whole cc0_stg0_0).view.readAt (Elt F) (Rect.unit (s := S4x1024) ![0, 0] S4x1024.size inb_S4x1024_S4x1024_0_0).toLoadRect kf

/-- What the body starts from: both rings cut into slots, the output block into slabs, the shares of `x`, the semaphores of
    its own copies at zero, the exchange's buffers, and the ghost state of the exchange. -/
def bodyIn (K : Dev nD × Fin 3 → ℕ) (c : Dev nD) (fx : S8x2x264x1024.Idx → Elt F .bf16) (fo : S8x2x256x1024.Idx → Elt F .bf16) (fv : S2x4096x1024.Idx → Elt F .bf16)
    (fsnd : S2x8x1024.Idx → Elt F .bf16) (kf : S4x1024.Idx → Elt F .bf16) (W : Waits sig Unit) : sProp 𝕄 :=
  iprop(xSlot c 0 inb_S8x2x264x1024_S1x2x264x1024_0_0_0_0 fx ∗ xSlot c 1 inb_S8x2x264x1024_S1x2x264x1024_1_0_0_0 fx ∗ xSlot c 2 inb_S8x2x264x1024_S1x2x264x1024_2_0_0_0 fx ∗ xSlot c 3 inb_S8x2x264x1024_S1x2x264x1024_3_0_0_0 fx
    ∗ xSlot c 4 inb_S8x2x264x1024_S1x2x264x1024_4_0_0_0 fx ∗ xSlot c 5 inb_S8x2x264x1024_S1x2x264x1024_5_0_0_0 fx ∗ xSlot c 6 inb_S8x2x264x1024_S1x2x264x1024_6_0_0_0 fx ∗ xSlot c 7 inb_S8x2x264x1024_S1x2x264x1024_7_0_0_0 fx
    ∗ oSlot c 0 inb_S8x2x256x1024_S1x2x256x1024_0_0_0_0 fo ∗ oSlot c 1 inb_S8x2x256x1024_S1x2x256x1024_1_0_0_0 fo ∗ oSlot c 2 inb_S8x2x256x1024_S1x2x256x1024_2_0_0_0 fo ∗ oSlot c 3 inb_S8x2x256x1024_S1x2x256x1024_3_0_0_0 fo
    ∗ oSlot c 4 inb_S8x2x256x1024_S1x2x256x1024_4_0_0_0 fo ∗ oSlot c 5 inb_S8x2x256x1024_S1x2x256x1024_5_0_0_0 fo ∗ oSlot c 6 inb_S8x2x256x1024_S1x2x256x1024_6_0_0_0 fo ∗ oSlot c 7 inb_S8x2x256x1024_S1x2x256x1024_7_0_0_0 fo
    ∗ slab c 0 inb_S2x4096x1024_S2x256x1024_0_0_0 fv ∗ slab c 256 inb_S2x4096x1024_S2x256x1024_0_256_0 fv ∗ slab c 512 inb_S2x4096x1024_S2x256x1024_0_512_0 fv ∗ slab c 768 inb_S2x4096x1024_S2x256x1024_0_768_0 fv
    ∗ slab c 1024 inb_S2x4096x1024_S2x256x1024_0_1024_0 fv ∗ slab c 1280 inb_S2x4096x1024_S2x256x1024_0_1280_0 fv ∗ slab c 1536 inb_S2x4096x1024_S2x256x1024_0_1536_0 fv ∗ slab c 1792 inb_S2x4096x1024_S2x256x1024_0_1792_0 fv
    ∗ slab c 2048 inb_S2x4096x1024_S2x256x1024_0_2048_0 fv ∗ slab c 2304 inb_S2x4096x1024_S2x256x1024_0_2304_0 fv ∗ slab c 2560 inb_S2x4096x1024_S2x256x1024_0_2560_0 fv ∗ slab c 2816 inb_S2x4096x1024_S2x256x1024_0_2816_0 fv
    ∗ slab c 3072 inb_S2x4096x1024_S2x256x1024_0_3072_0 fv ∗ slab c 3328 inb_S2x4096x1024_S2x256x1024_0_3328_0 fv ∗ slab c 3584 inb_S2x4096x1024_S2x256x1024_0_3584_0 fv ∗ slab c 3840 inb_S2x4096x1024_S2x256x1024_0_3840_0 fv
    ∗ xTok m c 1 ∗ xTok m c 2 ∗ xTok m c 3 ∗ xTok m c 4 ∗ xTok m c 5 ∗ xTok m c 6 ∗ xTok m c 7 ∗ xTok m c 8 ∗ xTok m c 19
    ∗ dmaZero c 1 ∗ dmaZero c 2 ∗ dmaZero c 3 ∗ dmaZero c 4 ∗ dmaZero c 5 ∗ dmaZero c 6 ∗ dmaZero c 7 ∗ dmaZero c 8 ∗ dmaZero c 9
    ∗ dmaZero c 10 ∗ dmaZero c 11 ∗ dmaZero c 12 ∗ dmaZero c 13 ∗ dmaZero c 14 ∗ dmaZero c 15 ∗ dmaZero c 16 ∗ dmaZero c 19
    ∗ sendPts c fsnd ∗ (∃ f, haloPts c f) ∗ taps c kf ∗ owes (c : Thread nD τ) (O₀ c) W ∗ levAts L lv ∗ ghost m K c ∗ credBar c ∗ credRecv c)

/-- What the body leaves: the output block computed, both rings whole in slots with some contents, and the semaphores at zero. -/
def bodyOut (c : Dev nD) (kf : S4x1024.Idx → Elt F .bf16) : sProp 𝕄 :=
  iprop(slab c 0 inb_S2x4096x1024_S2x256x1024_0_0_0 (outOf m c kf) ∗ slab c 256 inb_S2x4096x1024_S2x256x1024_0_256_0 (outOf m c kf) ∗ slab c 512 inb_S2x4096x1024_S2x256x1024_0_512_0 (outOf m c kf) ∗ slab c 768 inb_S2x4096x1024_S2x256x1024_0_768_0 (outOf m c kf)
    ∗ slab c 1024 inb_S2x4096x1024_S2x256x1024_0_1024_0 (outOf m c kf) ∗ slab c 1280 inb_S2x4096x1024_S2x256x1024_0_1280_0 (outOf m c kf) ∗ slab c 1536 inb_S2x4096x1024_S2x256x1024_0_1536_0 (outOf m c kf) ∗ slab c 1792 inb_S2x4096x1024_S2x256x1024_0_1792_0 (outOf m c kf)
    ∗ slab c 2048 inb_S2x4096x1024_S2x256x1024_0_2048_0 (outOf m c kf) ∗ slab c 2304 inb_S2x4096x1024_S2x256x1024_0_2304_0 (outOf m c kf) ∗ slab c 2560 inb_S2x4096x1024_S2x256x1024_0_2560_0 (outOf m c kf) ∗ slab c 2816 inb_S2x4096x1024_S2x256x1024_0_2816_0 (outOf m c kf)
    ∗ slab c 3072 inb_S2x4096x1024_S2x256x1024_0_3072_0 (outOf m c kf) ∗ slab c 3328 inb_S2x4096x1024_S2x256x1024_0_3328_0 (outOf m c kf) ∗ slab c 3584 inb_S2x4096x1024_S2x256x1024_0_3584_0 (outOf m c kf) ∗ slab c 3840 inb_S2x4096x1024_S2x256x1024_0_3840_0 (outOf m c kf)
    ∗ (∃ f, xSlot c 0 inb_S8x2x264x1024_S1x2x264x1024_0_0_0_0 f) ∗ (∃ f, xSlot c 1 inb_S8x2x264x1024_S1x2x264x1024_1_0_0_0 f) ∗ (∃ f, xSlot c 2 inb_S8x2x264x1024_S1x2x264x1024_2_0_0_0 f) ∗ (∃ f, xSlot c 3 inb_S8x2x264x1024_S1x2x264x1024_3_0_0_0 f)
    ∗ (∃ f, xSlot c 4 inb_S8x2x264x1024_S1x2x264x1024_4_0_0_0 f) ∗ (∃ f, xSlot c 5 inb_S8x2x264x1024_S1x2x264x1024_5_0_0_0 f) ∗ (∃ f, xSlot c 6 inb_S8x2x264x1024_S1x2x264x1024_6_0_0_0 f) ∗ (∃ f, xSlot c 7 inb_S8x2x264x1024_S1x2x264x1024_7_0_0_0 f)
    ∗ (∃ f, oSlot c 0 inb_S8x2x256x1024_S1x2x256x1024_0_0_0_0 f) ∗ (∃ f, oSlot c 1 inb_S8x2x256x1024_S1x2x256x1024_1_0_0_0 f) ∗ (∃ f, oSlot c 2 inb_S8x2x256x1024_S1x2x256x1024_2_0_0_0 f) ∗ (∃ f, oSlot c 3 inb_S8x2x256x1024_S1x2x256x1024_3_0_0_0 f)
    ∗ (∃ f, oSlot c 4 inb_S8x2x256x1024_S1x2x256x1024_4_0_0_0 f) ∗ (∃ f, oSlot c 5 inb_S8x2x256x1024_S1x2x256x1024_5_0_0_0 f) ∗ (∃ f, oSlot c 6 inb_S8x2x256x1024_S1x2x256x1024_6_0_0_0 f) ∗ (∃ f, oSlot c 7 inb_S8x2x256x1024_S1x2x256x1024_7_0_0_0 f)
    ∗ dmaZero c 1 ∗ dmaZero c 2 ∗ dmaZero c 3 ∗ dmaZero c 4 ∗ dmaZero c 5 ∗ dmaZero c 6 ∗ dmaZero c 7 ∗ dmaZero c 8 ∗ dmaZero c 9
    ∗ dmaZero c 10 ∗ dmaZero c 11 ∗ dmaZero c 12 ∗ dmaZero c 13 ∗ dmaZero c 14 ∗ dmaZero c 15 ∗ dmaZero c 16 ∗ dmaZero c 19
    ∗ semVal (sendCell c) 0 ∗ semVal (recvCell c) 0 ∗ semVal (barCell c) 0
    ∗ sendPts c (tailOf m c) ∗ haloPts c (haloOf m c) ∗ taps c kf ∗ owing c 0)

set_option maxHeartbeats 2000000 in
/-- The body, run on any device. -/
theorem run_body (c : Dev nD) (fx : S8x2x264x1024.Idx → Elt F .bf16) (fo : S8x2x256x1024.Idx → Elt F .bf16) (fv : S2x4096x1024.Idx → Elt F .bf16)
    (fsnd : S2x8x1024.Idx → Elt F .bf16) (kf : S4x1024.Idx → Elt F .bf16) (K : Dev nD × Fin 3 → ℕ) (W : Waits sig Unit) :
    bodyIn m K c fx fo fv fsnd kf W
      ⊢ wp frame (wpE (defs₀ (F := F)) 𝒱₀ c none) Set.univ
          (cc0_body (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8)
          (fun _ => bodyOut m c kf) := by
  unfold bodyIn xSlot oSlot slab xTok dmaZero taps sendPts ghost
  iintro ⟨HX0, HX1, HX2, HX3, HX4, HX5, HX6, HX7, HB0, HB1, HB2, HB3, HB4, HB5, HB6, HB7, HV0, HV1, HV2, HV3, HV4, HV5, HV6, HV7, HV8, HV9, HV10, HV11, HV12, HV13, HV14, HV15, HT1, HT2, HT3, HT4, HT5, HT6, HT7, HT8, HT19, HS1, HS2, HS3, HS4, HS5, HS6, HS7, HS8, HS9, HS10, HS11, HS12, HS13, HS14, HS15, HS16, HS19, Hsnd, Hhalo, Hk, HO, #Hlev, ⟨#HR, HatB, HatS, HatV, HtB, HtV, HtS⟩, HcB, HcV⟩
  rw [cc0_body_eq_skeleton]; unfold cc0_body_skel
  sl_exec
  iapply (wp_branch c (fun h => signalProg c h) (fun h => rfl) (step_signal m c K) (skip_signal m c K)) $$ [HO HtB Hhalo]
  · isplitr; · iexact HR
    isplitl [HO]; · iexists W; iexact HO
    isplitl [HtB] <;> iassumption
  iintro ⟨HO, Hhalo⟩
  iapply (wp_branch c (fun h => sendProg c h _ _ _) (fun h => rfl) (fun h => step_send m c K h) (skip_send m c K)) $$ [HO HatB HcB HS19 HtV HtS]
  · unfold preSend
    isplitr; · iexact HR
    isplitr; · iexact Hlev
    isplitl [HO]; · iexact HO
    isplitl [HatB]; · iexact HatB
    isplitl [HcB]; · iexact HcB
    isplitl [HS19]
    · iapply (Transfers.Flight_mono (EC := countersEmb) ?_) $$ HS19
      iintro H
      icases H with ⟨H1, -⟩
      ihave H1 := (Entails.of_eq (congrArg (fun g => ((sM : Memref sig .tc .vmem S2x8x1024 .bf16).view.loc (c : Thread nD τ) ↦[(sM : Memref sig .tc .vmem S2x8x1024 .bf16).view.set]{fullShare} g : sProp 𝕄))
        ((staged_eq fsnd (run_body.sl.dma0_8 m c)).trans (show run_body.sl.dma0_8 m c = tailOf m c from rfl)))) $$ H1
      unfold sendPts
      iexact H1
    isplitl [HtV] <;> iassumption
  unfold postSend
  iintro ⟨HO, HzB, Hst⟩
  iapply (wp_branch c (fun h => drainProg _ _) (fun h => rfl) (fun h => step_drain m c ((last_iff c).mp h)) (fun h => skip_drain m c (not_not.mp fun h' => h ((last_iff c).mpr h')))) $$ [HO Hst]
  · isplitl [HO] <;> iassumption
  iintro ⟨HO, HS19, Hsent⟩
  iapply (wp_branch c (fun h => zeroProg _ _ _) (fun h => rfl) (fun h => step_zero m c ((first_iff c).mp h)) (fun h => skip_zero m c (not_not.mp fun h' => h ((first_iff c).mpr h')))) $$ [Hhalo]
  · iexact Hhalo
  iintro Hhalo
  icases HO with ⟨%W₁, HO⟩
  unfold wpc
  sl_exec
  iapply (wp_branch c (fun h => recvProg _ _) (fun h => rfl) (fun h => step_recv m c K ((later_iff c).mp h)) (fun h => skip_recv m c K (fun h' => h ((later_iff c).mpr h')))) $$ [HO HcV HatV Hhalo]
  · unfold preRecv
    isplitr; · iexact HR
    isplitl [HO]; · iexists _; iexact HO
    isplitl [HcV]; · iexact HcV
    isplitl [HatV] <;> iassumption
  unfold postRecv haloPts
  iintro ⟨⟨%W₂, HO⟩, Hhalo, HzV⟩
  unfold wpc
  sl_exec
  iapply (wp_branch c (fun h => sendWaitProg _ _) (fun h => rfl) (fun h => step_done m c K ((notLast_iff c).mp h)) (fun h => skip_done m c K (fun h' => h ((notLast_iff c).mpr h')))) $$ [HO HatS Hsent]
  · unfold preDone
    isplitr; · iexact HR
    isplitl [HO]; · iexists _; iexact HO
    isplitl [HatS] <;> iassumption
  unfold postDone
  iintro ⟨HO, Hsnd, HzS⟩
  unfold wpc
  beta_reduce
  rw [show (Pure.pure PUnit.unit : Prog (TpuEff nD τ sig (Elt F) Λ₀ .tc) PUnit) = Prog.ret PUnit.unit from rfl, wp_ret]; imodintro
  have hk : ∀ g, chunk m c (loaded kf) g = chunk m c kf g := fun g => by rw [show loaded kf = kf from taps_read kf]
  ihave HV1 := (slab_done m c kf (o := 256) (inb := inb_S2x4096x1024_S2x256x1024_0_256_0) (f := fv) (w := run_body.sl.dma4 m c fx fo kf) 1 rfl ((chunk_read m c (loaded kf) 1 fo _ _ _ rfl (seg_loaded m c 1 rfl _)).trans (hk 1))) $$ HV1
  ihave HV2 := (slab_done m c kf (o := 512) (inb := inb_S2x4096x1024_S2x256x1024_0_512_0) (f := fv) (w := run_body.sl.dma7 m c fx fo kf) 2 rfl ((chunk_read m c (loaded kf) 2 fo _ _ _ rfl (seg_loaded m c 2 rfl _)).trans (hk 2))) $$ HV2
  ihave HV3 := (slab_done m c kf (o := 768) (inb := inb_S2x4096x1024_S2x256x1024_0_768_0) (f := fv) (w := run_body.sl.dma10 m c fx fo kf) 3 rfl ((chunk_read m c (loaded kf) 3 fo _ _ _ rfl (seg_loaded m c 3 rfl _)).trans (hk 3))) $$ HV3
  ihave HV4 := (slab_done m c kf (o := 1024) (inb := inb_S2x4096x1024_S2x256x1024_0_1024_0) (f := fv) (w := run_body.sl.dma13 m c fx fo kf) 4 rfl ((chunk_read m c (loaded kf) 4 fo _ _ _ rfl (seg_loaded m c 4 rfl _)).trans (hk 4))) $$ HV4
  ihave HV5 := (slab_done m c kf (o := 1280) (inb := inb_S2x4096x1024_S2x256x1024_0_1280_0) (f := fv) (w := run_body.sl.dma16 m c fx fo kf) 5 rfl ((chunk_read m c (loaded kf) 5 fo _ _ _ rfl (seg_loaded m c 5 rfl _)).trans (hk 5))) $$ HV5
  ihave HV6 := (slab_done m c kf (o := 1536) (inb := inb_S2x4096x1024_S2x256x1024_0_1536_0) (f := fv) (w := run_body.sl.dma19 m c fx fo kf) 6 rfl ((chunk_read m c (loaded kf) 6 fo _ _ _ rfl (seg_loaded m c 6 rfl _)).trans (hk 6))) $$ HV6
  ihave HV7 := (slab_done m c kf (o := 1792) (inb := inb_S2x4096x1024_S2x256x1024_0_1792_0) (f := fv) (w := run_body.sl.dma22 m c fx fo kf) 7 rfl ((chunk_read m c (loaded kf) 7 fo _ _ _ rfl (seg_loaded m c 7 rfl _)).trans (hk 7))) $$ HV7
  ihave HV8 := (slab_done m c kf (o := 2048) (inb := inb_S2x4096x1024_S2x256x1024_0_2048_0) (f := fv) (w := run_body.sl.dma25 m c fx fo kf) 8 rfl ((chunk_read m c (loaded kf) 8 fo _ _ _ rfl (seg_loaded m c 8 rfl _)).trans (hk 8))) $$ HV8
  ihave HV9 := (slab_done m c kf (o := 2304) (inb := inb_S2x4096x1024_S2x256x1024_0_2304_0) (f := fv) (w := run_body.sl.dma28 m c fx fo kf) 9 rfl ((chunk_read m c (loaded kf) 9 fo _ _ _ rfl (seg_loaded m c 9 rfl _)).trans (hk 9))) $$ HV9
  ihave HV10 := (slab_done m c kf (o := 2560) (inb := inb_S2x4096x1024_S2x256x1024_0_2560_0) (f := fv) (w := run_body.sl.dma31 m c fx fo kf) 10 rfl ((chunk_read m c (loaded kf) 10 fo _ _ _ rfl (seg_loaded m c 10 rfl _)).trans (hk 10))) $$ HV10
  ihave HV11 := (slab_done m c kf (o := 2816) (inb := inb_S2x4096x1024_S2x256x1024_0_2816_0) (f := fv) (w := run_body.sl.dma34 m c fx fo kf) 11 rfl ((chunk_read m c (loaded kf) 11 fo _ _ _ rfl (seg_loaded m c 11 rfl _)).trans (hk 11))) $$ HV11
  ihave HV12 := (slab_done m c kf (o := 3072) (inb := inb_S2x4096x1024_S2x256x1024_0_3072_0) (f := fv) (w := run_body.sl.dma37 m c fx fo kf) 12 rfl ((chunk_read m c (loaded kf) 12 fo _ _ _ rfl (seg_loaded m c 12 rfl _)).trans (hk 12))) $$ HV12
  ihave HV13 := (slab_done m c kf (o := 3328) (inb := inb_S2x4096x1024_S2x256x1024_0_3328_0) (f := fv) (w := run_body.sl.dma40 m c fx fo kf) 13 rfl ((chunk_read m c (loaded kf) 13 fo _ _ _ rfl (seg_loaded m c 13 rfl _)).trans (hk 13))) $$ HV13
  ihave HV14 := (slab_done m c kf (o := 3584) (inb := inb_S2x4096x1024_S2x256x1024_0_3584_0) (f := fv) (w := run_body.sl.dma43 m c fx fo kf) 14 rfl ((chunk_read m c (loaded kf) 14 fo _ _ _ rfl (seg_loaded m c 14 rfl _)).trans (hk 14))) $$ HV14
  ihave HV15 := (slab_done m c kf (o := 3840) (inb := inb_S2x4096x1024_S2x256x1024_0_3840_0) (f := fv) (w := run_body.sl.dma46 m c fx fo kf) 15 rfl ((chunk_read m c (loaded kf) 15 fo _ _ _ rfl (seg_loaded m c 15 rfl _)).trans (hk 15))) $$ HV15
  ihave HV0 := (slab_done m c kf (o := 0) (inb := inb_S2x4096x1024_S2x256x1024_0_0_0) (f := fv) (w := run_body.sl.dma7_2 m c fx fo kf) 0 rfl ((chunk_read m c (loaded kf) 0 fo _ _ _ rfl (seg_patched m c _ _)).trans (hk 0))) $$ HV0
  unfold bodyOut xSlot oSlot dmaZero taps haloPts
  isplitl [HV0]; · iexact HV0
  isplitl [HV1]; · iexact HV1
  isplitl [HV2]; · iexact HV2
  isplitl [HV3]; · iexact HV3
  isplitl [HV4]; · iexact HV4
  isplitl [HV5]; · iexact HV5
  isplitl [HV6]; · iexact HV6
  isplitl [HV7]; · iexact HV7
  isplitl [HV8]; · iexact HV8
  isplitl [HV9]; · iexact HV9
  isplitl [HV10]; · iexact HV10
  isplitl [HV11]; · iexact HV11
  isplitl [HV12]; · iexact HV12
  isplitl [HV13]; · iexact HV13
  isplitl [HV14]; · iexact HV14
  isplitl [HV15]; · iexact HV15
  isplitl [HX0]; · iexists _; iexact HX0
  isplitl [HX1]; · iexists _; iexact HX1
  isplitl [HX2]; · iexists _; iexact HX2
  isplitl [HX3]; · iexists _; iexact HX3
  isplitl [HX4]; · iexists _; iexact HX4
  isplitl [HX5]; · iexists _; iexact HX5
  isplitl [HX6]; · iexists _; iexact HX6
  isplitl [HX7]; · iexists _; iexact HX7
  isplitl [HB0]; · iexists _; iexact HB0
  isplitl [HB1]; · iexists _; iexact HB1
  isplitl [HB2]; · iexists _; iexact HB2
  isplitl [HB3]; · iexists _; iexact HB3
  isplitl [HB4]; · iexists _; iexact HB4
  isplitl [HB5]; · iexists _; iexact HB5
  isplitl [HB6]; · iexists _; iexact HB6
  isplitl [HB7]; · iexists _; iexact HB7
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS19]; · iexact HS19
  isplitl [HzS]; · iexact HzS
  isplitl [HzV]; · iexact HzV
  isplitl [HzB]; · iexact HzB
  isplitl [Hsnd]; · iexact Hsnd
  isplitl [Hhalo]; · iexact Hhalo
  isplitl [Hk]; · iexact Hk
  iexact HO

end Cert.Conv

end
-- ==== Proof.Slots.lean ====
/-
# The body's buffers, whole and cut

The rings' slots and the output's slabs are the whole buffers, cut; the body's two assertions, restated by groups.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Body
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.VecWindow

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

omit [FloatOps F] in
/-- Groups of a chain opened. -/
theorem chain_open (P Q R : sProp 𝕄) : iprop((P ∗ Q) ∗ R) = iprop(P ∗ Q ∗ R) := equiv_iff.mp ⟨Idealize.SL.BI.sep_assoc, Idealize.SL.BI.sep_assoc'⟩

/-! ## Buffers cut into parts -/

omit [FloatOps F] in
/-- A whole buffer is its parts. -/
theorem whole_cut {n : ℕ} {ℓ : Loc nD τ sig} {f : Buf (Elt F) ℓ} (K : Fin n → Finset (Idx ℓ)) (hd : ∀ s t i, i ∈ K s → i ∈ K t → s = t) (hc : ∀ i, ∃ s, i ∈ K s) :
    (ℓ ↦{fullShare} f : sProp 𝕄) = bigSep Finset.univ fun s => ℓ ↦[K s]{fullShare} f := by
  rw [← pointsTo_biUnion Finset.univ K fun s _ t _ h => Finset.disjoint_left.mpr fun i hs ht => h (hd s t i hs ht)]
  congr 1
  exact (Finset.eq_univ_iff_forall.mpr fun i => by obtain ⟨s, hs⟩ := hc i; exact Finset.mem_biUnion.mpr ⟨s, Finset.mem_univ _, hs⟩).symm

omit [FloatOps F] in
/-- Parts with some contents each are the whole buffer with some contents. -/
theorem whole_join {n : ℕ} {ℓ : Loc nD τ sig} [Nonempty (Buf (Elt F) ℓ)] (K : Fin n → Finset (Idx ℓ)) (hd : ∀ s t i, i ∈ K s → i ∈ K t → s = t) (hc : ∀ i, ∃ s, i ∈ K s) :
    (bigSep Finset.univ fun s => iprop(∃ f : Buf (Elt F) ℓ, ℓ ↦[K s]{fullShare} f) : sProp 𝕄) ⊢ iprop(∃ f, ℓ ↦{fullShare} f) := by
  iintro H
  ihave H := (BI.bigSep_exists_pi Finset.univ (fun (s : Fin n) (f : Buf (Elt F) ℓ) => (ℓ ↦[K s]{fullShare} f : sProp 𝕄))) $$ H
  icases H with ⟨%fs, H⟩
  ihave H := (pointsTo_biUnion_join Finset.univ K fs (Classical.arbitrary _) fun s _ t _ h => Finset.disjoint_left.mpr fun i hs ht => h (hd s t i hs ht)) $$ H
  icases H with ⟨%g, %hg, H⟩
  iexists g
  rw [show Finset.univ.biUnion K = Finset.univ from Finset.eq_univ_iff_forall.mpr fun i => by
    obtain ⟨s, hs⟩ := hc i; exact Finset.mem_biUnion.mpr ⟨s, Finset.mem_univ _, hs⟩]
  iexact H

/-- A slot lies in the input ring. -/
theorem x_inb (s : Fin 8) : ∀ a, (![s.val, 0, 0, 0] : Fin 4 → ℕ) a + S1x2x264x1024.size a ≤ S8x2x264x1024.size a := by revert s; decide
/-- A slot lies in the output ring. -/
theorem o_inb (s : Fin 8) : ∀ a, (![s.val, 0, 0, 0] : Fin 4 → ℕ) a + S1x2x256x1024.size a ≤ S8x2x256x1024.size a := by revert s; decide
/-- A slab lies in the output block. -/
theorem slab_inb (g : Fin 16) : ∀ a, (![0, 256 * g.val, 0] : Fin 3 → ℕ) a + S2x256x1024.size a ≤ S2x4096x1024.size a := by revert g; decide

/-- The entries of the input ring's slot `s`. -/
abbrev xPart (s : Fin 8) : Finset S8x2x264x1024.Idx := (Memref.whole cc0_scratch0).view.setOn (Rect.unit (s := S8x2x264x1024) ![s.val, 0, 0, 0] S1x2x264x1024.size (x_inb s)).set
/-- The entries of the output ring's slot `s`. -/
abbrev oPart (s : Fin 8) : Finset S8x2x256x1024.Idx := (Memref.whole cc0_scratch1).view.setOn (Rect.unit (s := S8x2x256x1024) ![s.val, 0, 0, 0] S1x2x256x1024.size (o_inb s)).set
/-- The entries of the output block's slab `g`. -/
abbrev slabPart (g : Fin 16) : Finset S2x4096x1024.Idx := (Memref.whole main_v1).view.setOn (Rect.unit (s := S2x4096x1024) ![0, 256 * g.val, 0] S2x256x1024.size (slab_inb g)).set

/-- The entries of an input slot, by their first coordinate. -/
theorem mem_xPart (s : Fin 8) (i : S8x2x264x1024.Idx) : i ∈ xPart s ↔ (i 0).val = s.val := by
  have h : i ∈ xPart s ↔ i ∈ (Rect.unit (s := S8x2x264x1024) ![s.val, 0, 0, 0] S1x2x264x1024.size (x_inb s)).set := by
    unfold xPart View.setOn
    exact ⟨fun h => by obtain ⟨j, hj, rfl⟩ := Finset.mem_map.mp h; exact hj, fun h => Finset.mem_map.mpr ⟨i, h, rfl⟩⟩
  rw [h, Rect.mem_set_unit, Fin.forall_fin_succ]
  constructor
  · rintro ⟨⟨h1, h2⟩, -⟩
    have h1 : s.val ≤ (i 0).val := h1
    have h2 : (i 0).val < s.val + 1 := h2
    omega
  · intro h
    refine ⟨⟨le_of_eq h.symm, ?_⟩, fun a => ?_⟩
    · show (i 0).val < s.val + 1; omega
    · have := (i a.succ).isLt
      fin_cases a <;> exact ⟨Nat.zero_le _, by simpa using this⟩
/-- The entries of an output slot, by their first coordinate. -/
theorem mem_oPart (s : Fin 8) (i : S8x2x256x1024.Idx) : i ∈ oPart s ↔ (i 0).val = s.val := by
  have h : i ∈ oPart s ↔ i ∈ (Rect.unit (s := S8x2x256x1024) ![s.val, 0, 0, 0] S1x2x256x1024.size (o_inb s)).set := by
    unfold oPart View.setOn
    exact ⟨fun h => by obtain ⟨j, hj, rfl⟩ := Finset.mem_map.mp h; exact hj, fun h => Finset.mem_map.mpr ⟨i, h, rfl⟩⟩
  rw [h, Rect.mem_set_unit, Fin.forall_fin_succ]
  constructor
  · rintro ⟨⟨h1, h2⟩, -⟩
    have h1 : s.val ≤ (i 0).val := h1
    have h2 : (i 0).val < s.val + 1 := h2
    omega
  · intro h
    refine ⟨⟨le_of_eq h.symm, ?_⟩, fun a => ?_⟩
    · show (i 0).val < s.val + 1; omega
    · have := (i a.succ).isLt
      fin_cases a <;> exact ⟨Nat.zero_le _, by simpa using this⟩
/-- The entries of a slab, by their row. -/
theorem mem_slabPart (g : Fin 16) (i : S2x4096x1024.Idx) : i ∈ slabPart g ↔ 256 * g.val ≤ (i 1).val ∧ (i 1).val < 256 * g.val + 256 := by
  have h : i ∈ slabPart g ↔ i ∈ (Rect.unit (s := S2x4096x1024) ![0, 256 * g.val, 0] S2x256x1024.size (slab_inb g)).set := by
    unfold slabPart View.setOn
    exact ⟨fun h => by obtain ⟨j, hj, rfl⟩ := Finset.mem_map.mp h; exact hj, fun h => Finset.mem_map.mpr ⟨i, h, rfl⟩⟩
  rw [h, Rect.mem_set_unit]
  constructor
  · intro h; exact h 1
  · intro h a
    have := (i a).isLt
    fin_cases a
    · exact ⟨Nat.zero_le _, by simpa using this⟩
    · exact h
    · exact ⟨Nat.zero_le _, by simpa using this⟩

/-- Input slots are disjoint. -/
theorem xPart_inj (s t : Fin 8) (i) (h1 : i ∈ xPart s) (h2 : i ∈ xPart t) : s = t := Fin.ext (((mem_xPart s i).mp h1).symm.trans ((mem_xPart t i).mp h2))
/-- Input slots cover the ring. -/
theorem xPart_cov (i : S8x2x264x1024.Idx) : ∃ s, i ∈ xPart s := ⟨i 0, (mem_xPart _ i).mpr rfl⟩
/-- Output slots are disjoint. -/
theorem oPart_inj (s t : Fin 8) (i) (h1 : i ∈ oPart s) (h2 : i ∈ oPart t) : s = t := Fin.ext (((mem_oPart s i).mp h1).symm.trans ((mem_oPart t i).mp h2))
/-- Output slots cover the ring. -/
theorem oPart_cov (i : S8x2x256x1024.Idx) : ∃ s, i ∈ oPart s := ⟨i 0, (mem_oPart _ i).mpr rfl⟩
/-- Slabs are disjoint. -/
theorem slabPart_inj (s t : Fin 16) (i) (h1 : i ∈ slabPart s) (h2 : i ∈ slabPart t) : s = t := by
  have h1 := (mem_slabPart s i).mp h1; have h2 := (mem_slabPart t i).mp h2; exact Fin.ext (by omega)
/-- Slabs cover the output block. -/
theorem slabPart_cov (i : S2x4096x1024.Idx) : ∃ s, i ∈ slabPart s := by
  have h : (i 1).val < 4096 := (i 1).isLt
  exact ⟨⟨(i 1).val / 256, by omega⟩, (mem_slabPart _ i).mpr (by dsimp only; omega)⟩

/-! ## The body's two assertions by groups -/

/-- The slots of the input ring, of the output ring, and the slabs of the output block. -/
def xSlots (c : Dev nD) (f : S8x2x264x1024.Idx → Elt F .bf16) : sProp 𝕄 := bigSep Finset.univ fun s : Fin 8 => xSlot c s.val (x_inb s) f
def oSlots (c : Dev nD) (f : S8x2x256x1024.Idx → Elt F .bf16) : sProp 𝕄 := bigSep Finset.univ fun s : Fin 8 => oSlot c s.val (o_inb s) f
def slabs (c : Dev nD) (f : S2x4096x1024.Idx → Elt F .bf16) : sProp 𝕄 := bigSep Finset.univ fun g : Fin 16 => slab c (256 * g.val) (slab_inb g) f
def xAny (c : Dev nD) : sProp 𝕄 := bigSep Finset.univ fun s : Fin 8 => iprop(∃ f, xSlot (F := F) c s.val (x_inb s) f)
def oAny (c : Dev nD) : sProp 𝕄 := bigSep Finset.univ fun s : Fin 8 => iprop(∃ f, oSlot (F := F) c s.val (o_inb s) f)
/-- The semaphores of the device's own copies, at zero. -/
def copySems (c : Dev nD) : sProp 𝕄 :=
  iprop(dmaZero c 1 ∗ dmaZero c 2 ∗ dmaZero c 3 ∗ dmaZero c 4 ∗ dmaZero c 5 ∗ dmaZero c 6 ∗ dmaZero c 7 ∗ dmaZero c 8 ∗ dmaZero c 9
    ∗ dmaZero c 10 ∗ dmaZero c 11 ∗ dmaZero c 12 ∗ dmaZero c 13 ∗ dmaZero c 14 ∗ dmaZero c 15 ∗ dmaZero c 16 ∗ dmaZero c 19)
/-- The shares of the device's block of `x`. -/
def xToks (c : Dev nD) : sProp 𝕄 :=
  iprop(xTok m c 1 ∗ xTok m c 2 ∗ xTok m c 3 ∗ xTok m c 4 ∗ xTok m c 5 ∗ xTok m c 6 ∗ xTok m c 7 ∗ xTok m c 8 ∗ xTok m c 19)

omit [FloatOps F] in
/-- A conjunction over eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- A conjunction over sixteen, written out. -/
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- A conjunction over the first twenty numbers, written out. -/
theorem bigSep_range20 (Φ : ℕ → sProp 𝕄) : bigSep (Finset.range 20) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_eq_bigSepL_of_eq [0, 1, 2, 3, 4, 5, 6, 7, 8, 9, 10, 11, 12, 13, 14, 15, 16, 17, 18, 19] (by decide) (by decide) Φ

/-- What the body starts from, by groups. -/
theorem bodyIn_groups (K : Dev nD × Fin 3 → ℕ) (c : Dev nD) (fx : S8x2x264x1024.Idx → Elt F .bf16) (fo : S8x2x256x1024.Idx → Elt F .bf16) (fv : S2x4096x1024.Idx → Elt F .bf16)
    (fsnd : S2x8x1024.Idx → Elt F .bf16) (kf : S4x1024.Idx → Elt F .bf16) (W : Waits sig Unit) :
    iprop(xSlots c fx ∗ oSlots c fo ∗ slabs c fv ∗ xToks m c ∗ copySems c
        ∗ sendPts c fsnd ∗ (∃ f, haloPts c f) ∗ taps c kf ∗ owes (c : Thread nD τ) (O₀ c) W ∗ levAts L lv ∗ ghost m K c ∗ credBar c ∗ credRecv c)
      = bodyIn m K c fx fo fv fsnd kf W := by
  unfold xSlots oSlots slabs xToks copySems bodyIn
  rw [bigSep_fin8, bigSep_fin8, bigSep_fin16]
  simp only [chain_open]
  rfl

/-- What the body leaves, by groups. -/
theorem bodyOut_groups (c : Dev nD) (kf : S4x1024.Idx → Elt F .bf16) :
    bodyOut m c kf = iprop(slabs c (outOf m c kf) ∗ xAny c ∗ oAny c ∗ copySems c
      ∗ semVal (sendCell c) 0 ∗ semVal (recvCell c) 0 ∗ semVal (barCell c) 0
      ∗ sendPts c (tailOf m c) ∗ haloPts c (haloOf m c) ∗ taps c kf ∗ owing c 0) := by
  unfold xAny oAny slabs copySems bodyOut
  rw [bigSep_fin8, bigSep_fin8, bigSep_fin16]
  simp only [chain_open]
  rfl

/-! ## From whole buffers to groups and back -/

omit [FloatOps F] in
/-- The input ring is its slots. -/
theorem xSlots_eq (c : Dev nD) (f : S8x2x264x1024.Idx → Elt F .bf16) : ((c : Thread nD τ).loc cc0_scratch0 ↦{fullShare} f : sProp 𝕄) = xSlots c f :=
  whole_cut (ℓ := (c : Thread nD τ).loc cc0_scratch0) (f := f) xPart xPart_inj xPart_cov
omit [FloatOps F] in
/-- The output ring is its slots. -/
theorem oSlots_eq (c : Dev nD) (f : S8x2x256x1024.Idx → Elt F .bf16) : ((c : Thread nD τ).loc cc0_scratch1 ↦{fullShare} f : sProp 𝕄) = oSlots c f :=
  whole_cut (ℓ := (c : Thread nD τ).loc cc0_scratch1) (f := f) oPart oPart_inj oPart_cov
omit [FloatOps F] in
/-- The output block is its slabs. -/
theorem slabs_eq (c : Dev nD) (f : S2x4096x1024.Idx → Elt F .bf16) : ((c : Thread nD τ).loc main_v1 ↦{fullShare} f : sProp 𝕄) = slabs c f :=
  whole_cut (ℓ := (c : Thread nD τ).loc main_v1) (f := f) slabPart slabPart_inj slabPart_cov
/-- Input slots of any contents make up the ring. -/
theorem xAny_join (c : Dev nD) : (xAny c : sProp 𝕄) ⊢ iprop(∃ f, (c : Thread nD τ).loc cc0_scratch0 ↦{fullShare} f) :=
  haveI : Nonempty (Buf (Elt F) ((c : Thread nD τ).loc cc0_scratch0)) := ⟨fun _ => FloatOps.ofBits .bf16 0⟩
  whole_join (ℓ := (c : Thread nD τ).loc cc0_scratch0) xPart xPart_inj xPart_cov
/-- Output slots of any contents make up the ring. -/
theorem oAny_join (c : Dev nD) : (oAny c : sProp 𝕄) ⊢ iprop(∃ f, (c : Thread nD τ).loc cc0_scratch1 ↦{fullShare} f) :=
  haveI : Nonempty (Buf (Elt F) ((c : Thread nD τ).loc cc0_scratch1)) := ⟨fun _ => FloatOps.ofBits .bf16 0⟩
  whole_join (ℓ := (c : Thread nD τ).loc cc0_scratch1) oPart oPart_inj oPart_cov

omit [FloatOps F] in
/-- The block of `x` gives the shares the copies read through, and keeps one. -/
theorem xToks_cut (c : Dev nD) : ((c : Thread nD τ).loc main_arg0 ↦{fullShare} xAt m c : sProp 𝕄)
    ⊢ iprop(((c : Thread nD τ).loc main_arg0 ↦{Transfers.shareDrop fullShare 20} xAt m c) ∗ xToks m c) := by
  iintro H
  ihave H := (Transfers.pointsTo_toks_range fullShare 20).1 $$ H
  rw [bigSep_range20]
  icases H with ⟨H, -, H1, H2, H3, H4, H5, H6, H7, H8, -, -, -, -, -, -, -, -, -, -, H19⟩
  isplitl [H]; · iexact H
  unfold xToks xTok
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H19

end Cert.Conv

end
-- ==== Proof.Launch.lean ====
/-
# The launch on eight devices

The proof data of the one pipeline, its body obligation from the body's run, the ghost state of the three cells every device
has, and the run of the whole program.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Slots
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.VecWindow

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

/-! ## The proof data -/

/-- The filter as device `c` holds it. -/
abbrev kAt (c : Dev nD) : S4x1024.Idx → Elt F .bf16 := m ((c : Thread nD τ).loc main_arg1)

/-- What a device is given for the body: its part of the exchange, the semaphores of its own copies, its credits, the level
    facts, its block of `x` and its block of the output. -/
def start (c : Dev nD) : sProp 𝕄 :=
  iprop((∃ K, ghost m K c) ∗ copySems c ∗ credBar c ∗ credRecv c ∗ levAts L lv
    ∗ ((c : Thread nD τ).loc main_arg0 ↦{fullShare} xAt m c) ∗ ((c : Thread nD τ).loc main_v1 ↦{fullShare} m ((c : Thread nD τ).loc main_v1)))

/-- The four scratch buffers, with some contents. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f))

/-- The share of `x` no copy reads through. -/
def xRest (c : Dev nD) : sProp 𝕄 := (c : Thread nD τ).loc main_arg0 ↦{Transfers.shareDrop fullShare 20} xAt m c
/-- The output block computed. -/
def outPts (c : Dev nD) : sProp 𝕄 := (c : Thread nD τ).loc main_v1 ↦{fullShare} outOf m c (kAt m c)

/-- Before the grid's one point. -/
def Φ₀ (c : Dev nD) : sProp 𝕄 := iprop(start m c ∗ scratch (F := F) c)
/-- After it: every semaphore at zero again. -/
def Φ₁ (c : Dev nD) : sProp 𝕄 :=
  iprop(xRest m c ∗ outPts m c ∗ scratch (F := F) c ∗ copySems c ∗ semVal (sendCell c) 0 ∗ semVal (recvCell c) 0 ∗ semVal (barCell c) 0)

set_option backward.proofsInPublic true in
def dats (_ : Fin 1) (c : Dev nD) : Dat τ (Elt F) Unit ℕ UU ℕ cfg0 c where
  A w := m ((cfg0.win w).arr.view.loc (c : Thread nD τ))
  after w _ := match w with
    | ⟨0, _⟩ => kAt m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body obligation -/

omit [FloatOps F] in
/-- Owning a whole buffer at contents is the points-to of those contents. -/
theorem owns_whole_eq (c : Dev nD) (b : Ref sig .tc) (q : PosShare TreeShare) (X : b.ty.Contents (Elt F)) :
    (owns (c : Thread nD τ) (Memref.whole b) q X : sProp 𝕄) = iprop(∃ f : Buf (Elt F) ((c : Thread nD τ).loc b), ⌜f = X⌝ ∗ ((c : Thread nD τ).loc b) ↦{q} f) := by
  unfold owns; simp only [Memref.view_whole, View.read_whole, View.set_whole]

omit [FloatOps F] in
/-- The filter's staging buffer, whole. -/
theorem taps_eq (c : Dev nD) (kf : S4x1024.Idx → Elt F .bf16) : taps c kf = ((c : Thread nD τ).loc cc0_stg0_0 ↦{fullShare} kf : sProp 𝕄) := by
  unfold taps; rw [show (Memref.whole cc0_stg0_0).view.set = Finset.univ from View.set_whole _]

/-- The filter's window is the whole filter. -/
theorem before_eq (c : Dev nD) (d) : (dats m 0 c).before (0 : Fin 1) t0_0 d = kAt m c := by
  unfold Dat.before
  rw [if_pos (fetch0_0 t0_0)]
  funext i
  refine congrArg (kAt m c) (funext fun a => Fin.ext ?_)
  fin_cases a
  · exact (Nat.zero_add _).trans (Nat.one_mul _)
  · exact (Nat.zero_add _).trans (Nat.one_mul _)

/-- The body's start, from what the point gives. -/
theorem enter (c : Dev nD) (W : Waits sig Unit) :
    iprop(Φ₀ m c ∗ owes (c : Thread nD τ) (O₀ c) W ∗ ((c : Thread nD τ).loc cc0_stg0_0 ↦{fullShare} kAt m c))
      ⊢ iprop(∃ K fx fo fv fsnd, bodyIn m K c fx fo fv fsnd (kAt m c) W ∗ xRest m c) := by
  unfold Φ₀ start scratch
  iintro ⟨⟨⟨⟨%K, Hg⟩, Hcs, HcB, HcV, Hlev, Hx, Hv⟩, ⟨%fx, Hxs⟩, ⟨%fo, Hos⟩, ⟨%fh, Hh⟩, ⟨%fs, Hs⟩⟩, HO, Hk⟩
  iexists K, fx, fo, (m ((c : Thread nD τ).loc main_v1)), fs
  ihave Hx := (xToks_cut m c) $$ Hx
  icases Hx with ⟨Hr, Hx⟩
  isplitl [Hg Hcs HcB HcV Hlev Hx Hv Hxs Hos Hh Hs HO Hk]
  · rw [← bodyIn_groups]
    isplitl [Hxs]; · rw [← xSlots_eq]; iexact Hxs
    isplitl [Hos]; · rw [← oSlots_eq]; iexact Hos
    isplitl [Hv]; · rw [← slabs_eq]; iexact Hv
    isplitl [Hx]; · iexact Hx
    isplitl [Hcs]; · iexact Hcs
    isplitl [Hs]; · rw [sendPts_eq]; iexact Hs
    isplitl [Hh]; · iexists fh; rw [haloPts_eq]; iexact Hh
    isplitl [Hk]; · rw [taps_eq]; iexact Hk
    isplitl [HO]; · iexact HO
    isplitl [Hlev]; · iexact Hlev
    isplitl [Hg]; · iexact Hg
    isplitl [HcB] <;> iassumption
  · unfold xRest; iexact Hr

/-- The point's end, from what the body leaves. -/
theorem leave (c : Dev nD) :
    iprop(bodyOut m c (kAt m c) ∗ xRest m c)
      ⊢ iprop(Φ₁ m c ∗ owing c 0 ∗ ((c : Thread nD τ).loc cc0_stg0_0 ↦{fullShare} kAt m c)) := by
  rw [bodyOut_groups]
  iintro ⟨⟨Hv, Hx, Ho, Hcs, HzS, HzV, HzB, Hs, Hh, Hk, HO⟩, Hr⟩
  unfold Φ₁ scratch
  isplitl [Hv Hx Ho Hcs HzS HzV HzB Hs Hh Hr]
  · isplitl [Hr]; · iexact Hr
    isplitl [Hv]; · unfold outPts; rw [slabs_eq]; iexact Hv
    isplitl [Hx Ho Hs Hh]
    · isplitl [Hx]; · iapply (xAny_join c); iexact Hx
      isplitl [Ho]; · iapply (oAny_join c); iexact Ho
      isplitl [Hh]; · iexists (haloOf m c); rw [← haloPts_eq]; iexact Hh
      iexists (tailOf m c); rw [← sendPts_eq]; iexact Hs
    isplitl [Hcs]; · iexact Hcs
    isplitl [HzS]; · iexact HzS
    isplitl [HzV] <;> iassumption
  isplitl [HO]; · iexact HO
  rw [← taps_eq]; iexact Hk

/-- The library's body obligation on device `c`. -/
theorem body_obligation (c : Dev nD) : BodyObligation (dats m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc
      ∗ (∃ d, ∃ f : Buf (Elt F) ((c : Thread nD τ).loc cc0_stg0_0), ⌜f = (dats m 0 c).before (0 : Fin 1) t0_0 d⌝ ∗ ((c : Thread nD τ).loc cc0_stg0_0) ↦{fullShare} f))
    ⊢ wp frame (wpE (defs₀ (F := F)) 𝒱₀ c none) Set.univ
      (cc0_body (Memref.whole main_arg0) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8)
      (fun _ => iprop(Φ₁ m c ∗ (dats m 0 c).owesAt () t0_0.succ
        ∗ (∃ f : Buf (Elt F) ((c : Thread nD τ).loc cc0_stg0_0), ⌜f = kAt m c⌝ ∗ ((c : Thread nD τ).loc cc0_stg0_0) ↦{fullShare} f)))
  unfold Dat.owesAt Pipeline.owesWithin
  rw [show (dats m 0 c).owed t0_0.castSucc = O₀ c from rfl, show (dats m 0 c).owed t0_0.succ = 0 from rfl]
  iintro ⟨HΦ, ⟨%W, %hW, HO⟩, %d, %g, %hg, Hk⟩
  rw [show g = kAt m c from hg.trans (before_eq m c d)]
  ihave H := (enter m c W) $$ [HΦ HO Hk]
  · isplitl [HΦ]; · iexact HΦ
    isplitl [HO] <;> iassumption
  icases H with ⟨%K, %fx, %fo, %fv, %fs, Hin, Hr⟩
  iapply (wp_wand _ _ _ (Q := fun _ => bodyOut m c (kAt m c))) $$ [Hin]
  · iapply (run_body m c fx fo fv fs (kAt m c) K W); iexact Hin
  iintro %_ Hout
  ihave H := (leave m c) $$ [Hout Hr]
  · isplitl [Hout] <;> iassumption
  unfold owing
  icases H with ⟨HΦ, ⟨%W', HO⟩, Hk⟩
  isplitl [HΦ]; · iexact HΦ
  isplitl [HO]
  · iexists W'; isplitr; · ipureintro; exact fun _ _ => Or.inl trivial
    iexact HO
  iexists (kAt m c); isplitr; · ipureintro; rfl
  iexact Hk

end Cert.Conv

end
-- ==== Proof.Run.lean ====
/-
# The run of the whole program

The ghost state of the cells, made at the launch and dealt to the devices, and the run: every device's output block holds the
convolution of its rows, and every semaphore reads zero again.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Launch
public import Idealize.ShloMosaic.Lib.Pipeline.CollectiveSegs
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.VecWindow

@[expose] public section

set_option maxRecDepth 16384

noncomputable section

namespace Cert.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ
variable (ρ : Dev nD → PrngReg)

/-! ## The semaphores a device owns -/

set_option backward.proofsInPublic true in
/-- The kernel's own semaphores: all but the filter's staging semaphore. -/
abbrev osem : Fin 19 → SemLoc sig := fun k => .dma (k.succ : Fin 20)
/-- The kernel's own semaphores are distinct, and none is a window's. -/
theorem ownSemFacts : Pipeline.OwnSemFacts cfg0.spec osem := by decide

omit [FloatOps F] in
/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(dmaZero c 1 ∗ dmaZero c 2 ∗ dmaZero c 3 ∗ dmaZero c 4 ∗ dmaZero c 5 ∗ dmaZero c 6 ∗ dmaZero c 7 ∗ dmaZero c 8 ∗ dmaZero c 9
      ∗ dmaZero c 10 ∗ dmaZero c 11 ∗ dmaZero c 12 ∗ dmaZero c 13 ∗ dmaZero c 14 ∗ dmaZero c 15 ∗ dmaZero c 16 ∗ semVal (sendCell c) 0 ∗ semVal (recvCell c) 0 ∗ dmaZero c 19) := by
  rw [Pipeline.ownSems0_eq_of_list c osem [0, 1, 2, 3, 4, 5, 6, 7, 8, 9, 10, 11, 12, 13, 14, 15, 16, 17, 18] (by decide) (by decide)]; rfl

omit [FloatOps F] in
/-- Two neighbouring conjuncts exchanged. -/
theorem sep_swap (P Q R : sProp 𝕄) : iprop(P ∗ Q ∗ R) = iprop(Q ∗ P ∗ R) := by
  have h (P Q R : sProp 𝕄) : iprop(P ∗ Q ∗ R) ⊢ iprop(Q ∗ P ∗ R) := by
    iintro ⟨HP, HQ, HR⟩
    isplitl [HQ]; · iexact HQ
    isplitl [HP] <;> iassumption
  exact equiv_iff.mp ⟨h P Q R, h Q P R⟩

omit [FloatOps F] in
/-- Its own semaphores are those of its copies, the send and the receive semaphore. -/
theorem ownSems0_split (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ copySems c) := by
  rw [ownSems0_eq]
  unfold copySems
  simp only [sep_swap (dmaZero c _) (semVal (sendCell c) 0), sep_swap (dmaZero c _) (semVal (recvCell c) 0)]

omit [FloatOps F] in
/-- The one semaphore outside the launch is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells' ghost state -/

/-- The three cells of the eight devices are distinct. -/
theorem kcell_injective : Function.Injective (kcell : Dev nD × Fin 3 → GSem nD τ sig) := by
  rintro ⟨c, k⟩ ⟨c', k'⟩ h
  obtain rfl : c = c' := congrArg (fun g : GSem nD τ sig => g.1.1) h
  have h2 : csem k = csem k' := congrArg Prod.snd h
  obtain rfl : k = k' := by fin_cases k <;> fin_cases k' <;> first | rfl | exact absurd h2 (by decide)
  rfl

/-- The cells, and the duty of each. -/
def cells : Finset (GSem nD τ sig) := Finset.univ.map ⟨kcell, kcell_injective⟩
def duties : Finset (GSem nD τ sig × ℕ × Unit) :=
  Finset.univ.map ⟨fun ck : Dev nD × Fin 3 => (kcell ck, 0, ()), fun a b h => kcell_injective (congrArg Prod.fst h)⟩

/-- What the launch owns: the pipeline's rounds, the cells' rounds, and the copies' counters. -/
def u₀ : UU :=
  (initOf (Pipeline.cells cfgs cellOf_inj) (Pipeline.launchToks cfgs cellOf_inj), (initOf cells duties, 1))

/-- What a device's cells are dealt: their state, the positions and marks, and their duty tokens. -/
def G (c : Dev nD) : sProp 𝕄 :=
  iprop((bigSep Finset.univ fun k : Fin 3 => roundState ER (Rd m) (kcell (c, k)) 0)
    ∗ (bigSep Finset.univ fun k : Fin 3 => atPos ER (kcell (c, k)) 0 ∅ 0) ∗ (bigSep Finset.univ fun k : Fin 3 => reached ER (kcell (c, k)) 0)
    ∗ bigSep Finset.univ fun k : Fin 3 => dutyTok ER (kcell (c, k)) 0 ())
/-- What the global step makes of it. -/
def G' (c : Dev nD) : sProp 𝕄 := iprop((∃ K, ghost m K c) ∗ copySems c)

omit [FloatOps F] in
/-- A conjunction over three, written out. -/
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The launch element's second half holds the cells' rounds. -/
theorem cells_part (a : UH) (b : Counters) :
    (BI.own ((embR : Emb (UH × Counters) 𝕄) (a, b)) : sProp 𝕄) ⊢ iprop(BI.own (ER a : 𝕄) ∗ BI.own (((Emb.inr : Emb Counters (UH × Counters)).trans embR : Emb Counters 𝕄) b)) := by
  have h := own_pair_emb (embR : Emb (UH × Counters) 𝕄) a b
  have e : (((Emb.inl : Emb UH (UH × Counters)).trans embR : Emb UH 𝕄)) a = ER a := rfl
  rwa [e] at h

omit [FloatOps F] in
/-- The cells' part of the launch element gives every device its cells' state. -/
theorem fund_cells : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun k : Fin 3 => Φ (kcell (c, k)) := by
    unfold cells; rw [bigSep_map, bigSep_univ_prod]; rfl
  have hT : bigSep duties (fun x => (dutyTok ER x.1 x.2.1 x.2.2 : sProp 𝕄)) = bigSep Finset.univ fun c : Dev nD => bigSep Finset.univ fun k : Fin 3 => dutyTok ER (kcell (c, k)) 0 () := by
    unfold duties; rw [bigSep_map, bigSep_univ_prod]; rfl
  iintro H
  imod (Rounds.fund ER (Rd m) cells duties) $$ H with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

omit [FloatOps F] in
/-- A device's cells put under invariants; the semaphores of its copies stay with it. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 3 => iprop(∃ κ : ℕ, cellInv ER (Rd m) κ (kcell (c, k))))
          ∗ (bigSep Finset.univ fun k : Fin 3 => atPos ER (kcell (c, k)) 0 ∅ 0) ∗ (bigSep Finset.univ fun k : Fin 3 => reached ER (kcell (c, k)) 0)
          ∗ (bigSep Finset.univ fun k : Fin 3 => dutyTok ER (kcell (c, k)) 0 ()) ∗ copySems c) := by
  rw [ownSems0_split, unscopedSems0_eq]
  unfold G
  iintro ⟨⟨HS, HV, Hcs⟩, HB, Hst, Hrest⟩
  have h : iprop((bigSep Finset.univ fun k : Fin 3 => semVal (kcell (c, k)) 0) ∗ bigSep Finset.univ fun k : Fin 3 => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  imod h $$ [HS HV HB Hst] with Hinv
  · isplitr [Hst]
    · rw [bigSep_fin3]
      isplitl [HB]; · iexact HB
      isplitl [HS] <;> iassumption
    iexact Hst
  imodintro
  icases Hrest with ⟨Hat, Hr, Ht⟩
  isplitl [Hinv]; · iexact Hinv
  isplitl [Hat]; · iexact Hat
  isplitl [Hr]; · iexact Hr
  isplitl [Ht] <;> iassumption

/-- The tokens of the duties a device pays. -/
def payToks (c : Dev nD) : sProp 𝕄 :=
  iprop(dutyTok ER (barCell (prv c)) 0 () ∗ dutyTok ER (recvCell (nxt c)) 0 () ∗ dutyTok ER (sendCell c) 0 ())

omit [FloatOps F] in
/-- A barrier's token goes to the device after it, a receive's to the device before it. -/
theorem toks_around : (bigSep Finset.univ fun c : Dev nD => bigSep Finset.univ fun k : Fin 3 => (dutyTok ER (kcell (c, k)) 0 () : sProp 𝕄))
    ⊢ bigSep Finset.univ fun c : Dev nD => payToks c := by
  unfold payToks
  simp only [bigSep_fin3, bigSep_sep']
  rw [bigSep_univ_equiv ring.symm (fun c : Dev nD => (dutyTok ER (kcell (c, 0)) 0 () : sProp 𝕄)),
    bigSep_univ_equiv ring (fun c : Dev nD => (dutyTok ER (kcell (c, 2)) 0 () : sProp 𝕄))]
  iintro ⟨H1, H2, H3⟩
  isplitl [H1]; · iexact H1
  isplitl [H3]; · iexact H3
  iexact H2

/-- What stays with a device, before the records join it. -/
def own1 (c : Dev nD) : sProp 𝕄 :=
  iprop((bigSep Finset.univ fun k : Fin 3 => atPos ER (kcell (c, k)) 0 ∅ 0) ∗ payToks c ∗ copySems c)

omit [FloatOps F] in
/-- The records and a device's own share make up what it starts with. -/
theorem ghost_intro (K : Dev nD × Fin 3 → ℕ) (c : Dev nD) : iprop(records m K ∗ own1 c) ⊢ G' m c := by
  unfold own1 payToks G' ghost
  rw [bigSep_fin3]
  iintro ⟨HR, ⟨HaB, HaS, HaV⟩, ⟨HtB, HtV, HtS⟩, Hcs⟩
  isplitr [Hcs]
  · iexists K
    isplitl [HR]; · iexact HR
    isplitl [HaB]; · iexact HaB
    isplitl [HaS]; · iexact HaS
    isplitl [HaV]; · iexact HaV
    isplitl [HtB]; · iexact HtB
    isplitl [HtV] <;> iassumption
  iexact Hcs

omit [FloatOps F] in
/-- Something persistent may be used under every conjunct. -/
theorem bigSep_records {S : Finset (Dev nD)} {R : sProp 𝕄} [BI.Persistent R] {Φ Ψ : Dev nD → sProp 𝕄}
    (h : ∀ c, iprop(R ∗ Φ c) ⊢ Ψ c) : iprop(R ∗ bigSep S Φ) ⊢ bigSep S Ψ :=
  (sep_mono_left (BI.bigSep_of_persistent S R)).trans (by rw [← bigSep_sep']; exact bigSep_mono fun c _ => h c)

omit [FloatOps F] in
/-- The invariants' names chosen, and everything dealt to the device that needs it. -/
theorem regroup :
    (bigSep Finset.univ fun c : Dev nD => iprop((bigSep Finset.univ fun k : Fin 3 => iprop(∃ κ : ℕ, cellInv ER (Rd m) κ (kcell (c, k))))
          ∗ (bigSep Finset.univ fun k : Fin 3 => atPos ER (kcell (c, k)) 0 ∅ 0) ∗ (bigSep Finset.univ fun k : Fin 3 => reached ER (kcell (c, k)) 0)
          ∗ (bigSep Finset.univ fun k : Fin 3 => dutyTok ER (kcell (c, k)) 0 ()) ∗ copySems c) : sProp 𝕄)
      ⊢ bigSep Finset.univ (G' m) := by
  rw [bigSep_sep', bigSep_sep', bigSep_sep', bigSep_sep', ← bigSep_univ_prod (fun ck : Dev nD × Fin 3 => iprop(∃ κ : ℕ, cellInv ER (Rd m) κ (kcell ck))),
    ← bigSep_univ_prod (fun ck : Dev nD × Fin 3 => (reached ER (kcell ck) 0 : sProp 𝕄))]
  iintro ⟨HI, Hat, #HR, Htok, Hcs⟩
  ihave HK := (BI.bigSep_exists_pi Finset.univ (fun (ck : Dev nD × Fin 3) (κ : ℕ) => (cellInv ER (Rd m) κ (kcell ck) : sProp 𝕄))) $$ HI
  icases HK with ⟨%K, #HI⟩
  ihave Htk := (toks_around (F := F)) $$ Htok
  iapply (bigSep_records (R := records m K) fun c => ghost_intro m K c)
  isplitr
  · unfold records; isplitl; · iexact HI
    iexact HR
  unfold own1
  rw [bigSep_sep', bigSep_sep']
  isplitl [Hat]; · iexact Hat
  isplitl [Htk] <;> iassumption

omit [FloatOps F] in
/-- The global step, over every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

/-- Devices with the same barrier cell are the same. -/
theorem bar_inj {a b : Dev nD} (h : barCell a = barCell b) : a = b := Fin.ext (congrArg (fun g : GSem nD τ sig => g.1.1.val) h)
/-- Devices with the same receive cell are the same. -/
theorem recv_inj {a b : Dev nD} (h : recvCell a = recvCell b) : a = b := Fin.ext (congrArg (fun g : GSem nD τ sig => g.1.1.val) h)

/-- A device's barrier is owed one unit, by the device after it. -/
theorem owed_bar (d c : Dev nD) (hc : c.val < 7) : O₀ d (barCell c) () = if d = nxt c then 1 else 0 := by
  have hs : Osend d (barCell c) () = 0 := by
    unfold Osend; split
    · rw [tallyAt_ne_cell (fun h => recv_ne_bar (congrArg Prod.snd h).symm)]; rfl
    · rfl
  unfold O₀
  rw [Pi.add_apply, Finsupp.add_apply, hs, Nat.zero_add]
  unfold Obar
  by_cases h : d = nxt c
  · subst h; rw [if_pos (nxt_pos c hc), prv_nxt, tallyAt_apply, if_pos ⟨rfl, rfl⟩, if_pos rfl]
  · rw [if_neg h]; split
    · rw [tallyAt_apply, if_neg (fun ⟨h1, _⟩ => h (by rw [← nxt_prv d]; exact congrArg nxt (bar_inj h1).symm))]
    · rfl

/-- A device's receive semaphore is owed the transfer's credit, by the device before it. -/
theorem owed_recv (d c : Dev nD) (hc : 0 < c.val) : O₀ d (recvCell c) () = if d = prv c then N else 0 := by
  have hb : Obar d (recvCell c) () = 0 := by
    unfold Obar; split
    · rw [tallyAt_ne_cell (fun h => recv_ne_bar (congrArg Prod.snd h))]; rfl
    · rfl
  unfold O₀
  rw [Pi.add_apply, Finsupp.add_apply, hb, Nat.add_zero]
  unfold Osend
  by_cases h : d = prv c
  · subst h; rw [if_pos (prv_lt c hc), nxt_prv, tallyAt_apply, if_pos ⟨rfl, rfl⟩, if_pos rfl]
  · rw [if_neg h]; split
    · rw [tallyAt_apply, if_neg (fun ⟨h1, _⟩ => h (by rw [← prv_nxt d]; exact congrArg prv (recv_inj h1).symm))]
    · rfl

/-- The credit that the launch gives on a barrier cell: one unit. -/
theorem launch_bar (c : Dev nD) (hc : c.val < 7) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c hc, Finset.sum_ite_eq' Finset.univ (nxt c) fun _ => 1,
    if_pos (Finset.mem_univ _)]

/-- The credit that the launch gives on a receive cell: one halo copy. -/
theorem launch_recv (c : Dev nD) (hc : 0 < c.val) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c hc, Finset.sum_ite_eq' Finset.univ (prv c) fun _ => N,
    if_pos (Finset.mem_univ _)]

omit [FloatOps F] in
/-- The launch's credit gives each device what its two waits take. -/
theorem creds (c : Dev nD) : (Pipeline.launchCred O₀ c : sProp 𝕄) ⊢ iprop(credBar c ∗ credRecv c) := by
  unfold Pipeline.launchCred
  rw [bigSep_univ_at _ (SemLoc.reg barS)]
  have h (Φ : SemLoc sig → sProp 𝕄) : bigSep (Finset.univ.erase (SemLoc.reg barS)) Φ ⊢ Φ (SemLoc.dma recvS.sem) :=
    bigSep_elim (Finset.mem_erase.mpr ⟨recv_ne_bar, Finset.mem_univ _⟩)
  iintro ⟨H1, H2⟩
  ihave H2 := (h _) $$ H2
  isplitl [H1]
  · unfold credBar; split
    · rename_i h; rw [← launch_bar c h]; iexact H1
    · iempintro
  · unfold credRecv; split
    · rename_i h; rw [← launch_recv c h]; iexact H2
    · iempintro

/-! ## The side conditions -/

/-- The window is held whole. -/
theorem share_eq (c : Dev nD) (w : Fin cfg0.W) : (dats m 0 c).share w = fullShare := by unfold Dat.share; split <;> rfl

omit [FloatOps F] in
/-- What the launch gives a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hv⟩, Hlev, Hcr, -, HG⟩
  ihave Hc := (creds (F := F) c) $$ Hcr
  icases Hc with ⟨HcB, HcV⟩
  imodintro
  unfold start G'
  icases HG with ⟨HG, Hcs⟩
  isplitl
  · isplitl [HG]; · iexact HG
    isplitl [Hcs]; · iexact Hcs
    isplitl [HcB]; · iexact HcB
    isplitl [HcV]; · iexact HcV
    isplitl [Hlev]; · iexact Hlev
    isplitl [Hx] <;> iassumption
  · iempintro

/-- The state before the body, from the start and the scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- What a device hands over at the end: its barrier at zero, its block of `x` and its output block. -/
def final (c : Dev nD) : sProp 𝕄 := iprop(unscopedSems0 c ∗ xRest m c ∗ outPts m c)

/-- The state after the body gives back the semaphores and the scratch buffers, and leaves the results. -/
theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq, ownSems0_split]
  unfold Φ₁ final scratch
  rw [unscopedSems0_eq]
  iintro ⟨Hx, Hv, Hscr, Hcs, HzS, HzV, HzB⟩
  isplitl [HzB Hx Hv]
  · isplitl [HzB]; · iexact HzB
    isplitl [Hx] <;> iassumption
  isplitl [HzS HzV Hcs]
  · isplitl [HzS]; · iexact HzS
    isplitl [HzV] <;> iassumption
  iexact Hscr

/-- The window's own waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w; fin_cases s; decide) _ (by
      rcases t with ⟨_ | _, ht⟩
      · exact Or.inl rfl
      · exact Or.inr (Or.inr rfl))

/-- What the final memory says of device `c`. -/
def finalMem (c : Dev nD) (s : MemSt nD τ sig (Elt F)) : Prop :=
  (∀ sm : SemLoc sig, sm.isScoped .tc = false → s.sem ((c.tc : Thread nD τ), sm) = 0)
    ∧ s.mem ((c : Thread nD τ).loc main_arg0) = xAt m c ∧ s.mem ((c : Thread nD τ).loc main_v1) = outOf m c (kAt m c)

/-- What the memory holds at the end, read off what a device is left with. -/
theorem final_read (c : Dev nD) (s' : Phys nD τ sig (Elt F)) :
    iprop(final m c ∗ emp ∗ SI s') ⊢ |={Set.univ}=> iprop(⌜finalMem m c s'.mem⌝ ∗ SI s') := by
  unfold final xRest outPts
  iintro ⟨⟨Hu, Hx, Hv⟩, -, HSI⟩
  icombine HSI Hx gives %hx
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hx, Buf.eq_of_forall_mem_univ hv⟩
  iexact HSI

set_option maxRecDepth 8000 in
/-- From any memory with zero counters, on eight devices: every run terminates without a fault, leaves the arguments
    unchanged and every semaphore at zero, and every device's output block holds `outOf`. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outOf m c (kAt m c)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (cells_part _ _) $$ HX
      icases HX with ⟨HX, -⟩
      imod (fund_cells m) $$ HX with HG
      imodintro
      isplitl [HP] <;> iassumption)
    (hglob := glob m)
    (hA := fun _ _ => rfl) (hpf := fun _ k => k.elim0)
    (X := start m) (Y := final m) (Z := fun _ => iprop(emp))
    (hX := start_intro m ρ) (hin := phi0_intro m) (hout := phi1_exit m)
    (QY := finalMem m)
    (hY := final_read m)
    (hQ := fun _ h hs => ⟨fun c => ⟨(h c).2.2.2.1, ((h c).1 0).trans ((dats m 0 c).arrAt_in (0 : Fin 1) rfl _), (h c).2.2.2.2⟩, sem_eq_zero hs fun c => (h c).2.2.1⟩)

end Cert.Conv

end
-- ==== Proof.Frames.lean ====
/-
# The frames

The three programs run to their end, leave their arguments as they were, and leave every counter at zero: the kernel on its
eight devices by its run, whatever the floats are, and the reference on its one device by its run, having no counter.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.Conv

open Idealize.ShloMosaic Idealize.ShloMosaic.TcCoe Idealize.SL.Sem

open Cert.KernelIdeal in
/-- The kernel's frame, whatever the floats are. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1, (h.1 c).2.1⟩, h.2⟩) (run_main m ρ)

/-- The two printings of the kernel have the same body table. -/
theorem bodies_eq : Cert.Kernel.defs₀ (F := Bits) = Cert.KernelIdeal.defs₀ (F := Bits) := by
  unfold Cert.Kernel.defs₀ Cert.KernelIdeal.defs₀
  refine congrArg Defs.onTc ?_
  funext i ts
  match i, ts with
  | 0, (t, s) => rfl

/-- The same with the launch's own entries. -/
theorem defs_eq : Cert.Kernel.defs (F := Bits) = Cert.KernelIdeal.defs (F := Bits) :=
  congrArg (Pipeline.defs (Cert.KernelIdeal.pcfgs (F := Bits))) bodies_eq

/-- The kernel's frame, bit by bit. -/
theorem frame_kernel : Cert.quiescent_Kernel := by
  intro m ρ _
  rw [defs_eq]
  exact frame_any (F := Bits) m ρ

/-- The kernel's frame over the extended reals. -/
theorem frame_ideal : Cert.quiescent_KernelIdeal := fun m ρ _ => frame_any (F := Ideal) m ρ

/-- The reference's frame over the extended reals. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Conv

end
-- ==== Proof.Silu.lean ====
/-
# The activation

On the extended reals, `a (h tanh (h a) + h)` at `h = 1/2` is `a / (1 + exp (-a))`: on the reals because
`(tanh (r/2) + 1) / 2 = 1 / (1 + exp (-r))`, and at the two infinities by their values.
-/
module

public import Idealize.ShloMosaic.PureOps.Ideal
public import Idealize.ShloMosaic.Lib.IdealHost

@[expose] public section

noncomputable section

namespace Cert.Conv

open Idealize.ShloMosaic

/-- The bf16 pattern `0x3F00` is the real one half. -/
theorem ofBits_half : Ideal.ofBits .bf16 0x3F00#16 = (((1 : ℝ) / 2 : ℝ) : EReal) := by
  simp [Ideal.ofBits, Ideal.ieee, -EReal.coe_mul]; norm_num

/-- On the reals, the logistic function is half of one plus the hyperbolic tangent of the half. -/
theorem logistic_tanh (r : ℝ) : (1 / 2 : ℝ) * Real.tanh (1 / 2 * r) + 1 / 2 = (1 + Real.exp (-r))⁻¹ := by
  have hp : 0 < Real.exp (1 / 2 * r) := Real.exp_pos _
  have hn : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, Real.exp_neg, hn]
  field_simp
  ring

/-- The kernel's activation is the reference's, at every extended real. -/
theorem silu_eq (a : EReal) :
    a * (((1 / 2 : ℝ) : EReal) * Ideal.tanh (((1 / 2 : ℝ) : EReal) * a) + ((1 / 2 : ℝ) : EReal)) = Ideal.div a (1 + Ideal.exp (-a)) := by
  have hh : (0 : ℝ) < 1 / 2 := by norm_num
  induction a using EReal.rec with
  | bot =>
    rw [EReal.coe_mul_bot_of_pos hh, EReal.neg_bot]
    show (⊥ : EReal) * (((1 / 2 : ℝ) : EReal) * ((-1 : ℝ) : EReal) + ((1 / 2 : ℝ) : EReal)) = Ideal.div ⊥ (1 + ⊤)
    rw [← EReal.coe_mul, ← EReal.coe_add, show (1 : EReal) + ⊤ = ⊤ from EReal.coe_add_top 1]
    norm_num [Ideal.div]
  | top =>
    rw [EReal.coe_mul_top_of_pos hh, EReal.neg_top]
    show (⊤ : EReal) * (((1 / 2 : ℝ) : EReal) * ((1 : ℝ) : EReal) + ((1 / 2 : ℝ) : EReal)) = Ideal.div ⊤ (1 + 0)
    rw [← EReal.coe_mul, ← EReal.coe_add]
    norm_num [Ideal.div]
  | coe r =>
    have h1 : (0 : ℝ) < 1 + Real.exp (-r) := by positivity
    have h2 : (1 + ((Real.exp (-r) : ℝ) : EReal)) = ((1 + Real.exp (-r) : ℝ) : EReal) := by norm_cast
    rw [← EReal.coe_mul, ← EReal.coe_neg]
    show (r : EReal) * (((1 / 2 : ℝ) : EReal) * ((Real.tanh (1 / 2 * r) : ℝ) : EReal) + ((1 / 2 : ℝ) : EReal))
      = Ideal.div r (1 + ((Real.exp (-r) : ℝ) : EReal))
    rw [h2, Ideal.div, if_neg (by exact_mod_cast h1.ne'), ← EReal.coe_mul, ← EReal.coe_add, logistic_tanh, ← EReal.coe_inv]

end Cert.Conv

end
-- ==== Proof.Value.lean ====
/-
# The value

Over the extended reals every element of the kernel's result and of the reference's is the activation of the same sum of
four products: of the four rows of the padded array that end at the element's own, with the four taps. The kernel's window
of a chunk is a piece of the padded array: within the device's block its own rows, before them the last rows of the block
of the device before, which the halo holds, and on the first device the padding itself.
-/
module

public import proofs.«01_k».proof.Defs
public import proofs.«01_k».proof.Proof.Contents
public import proofs.«01_k».proof.Proof.Gen.ReferenceIdeal
public import proofs.«01_k».proof.Proof.Gen.ReferenceIdeal.Run
public import proofs.«01_k».proof.Proof.Run
public import proofs.«01_k».proof.Proof.Silu
public import Idealize.ShloMosaic.Lib.Layout
public import Idealize.ShloMosaic.Lib.Pointwise

@[expose] public section

set_option maxRecDepth 16384

noncomputable section

namespace Cert.Conv

open Cert.KernelIdeal Cert.KernelIdeal.Gen
open Idealize.ShloMosaic Idealize.ShloMosaic.TcCoe Idealize.SL.Sem

/-- The shape of the whole array, which the eight devices' blocks make up. -/
abbrev SX : Shape := ⟨3, ![2, 32768, 1024]⟩

/-! ## The sum -/

set_option backward.proofsInPublic true in
/-- Row `p` of the whole array behind three rows of zeros. -/
def padRow (X : SX.Idx → EReal) (b : Fin 2) (p : Fin 32771) (l : Fin 1024) : EReal :=
  if h : p.val < 3 then 0 else X (ix3 b (⟨p.val - 3, by omega⟩ : Fin 32768) l)

set_option backward.proofsInPublic true in
/-- The convolution at row `R`. -/
def convAt (X : SX.Idx → EReal) (K : S4x1024.Idx → EReal) (b : Fin 2) (R : Fin 32768) (l : Fin 1024) : EReal :=
  padRow X b ⟨R.val, by omega⟩ l * K (ix2 (0 : Fin 4) l) + padRow X b ⟨1 + R.val, by omega⟩ l * K (ix2 (1 : Fin 4) l)
    + padRow X b ⟨2 + R.val, by omega⟩ l * K (ix2 (2 : Fin 4) l) + padRow X b ⟨3 + R.val, by omega⟩ l * K (ix2 (3 : Fin 4) l)

/-- The activation of an extended real. -/
def silu (a : EReal) : EReal := Ideal.div a (1 + Ideal.exp (-a))

/-- The last of the four rows is the element's own. -/
theorem padRow_own (X : SX.Idx → EReal) (b : Fin 2) (R : Fin 32768) (l : Fin 1024) (h : 3 + R.val < 32771) :
    padRow X b ⟨3 + R.val, h⟩ l = X (ix3 b R l) := by
  unfold padRow
  rw [dif_neg (by show ¬ 3 + R.val < 3; omega)]
  exact congrArg (fun q : Fin 32768 => X (ix3 b q l)) (Fin.ext (by show 3 + R.val - 3 = R.val; omega))

/-! ## The reference -/

section Reference
variable (m' : (ℓ : Loc Cert.ReferenceIdeal.nD Cert.ReferenceIdeal.τ Cert.ReferenceIdeal.sig) → Buf (Elt Ideal) ℓ)

/-- The reference's `x`. -/
abbrev refX : SX.Idx → EReal := m' (((0 : Dev Cert.ReferenceIdeal.nD).tc : Thread Cert.ReferenceIdeal.nD Cert.ReferenceIdeal.τ).loc Cert.ReferenceIdeal.main_arg0)
/-- The reference's taps. -/
abbrev refK : S4x1024.Idx → EReal := m' (((0 : Dev Cert.ReferenceIdeal.nD).tc : Thread Cert.ReferenceIdeal.nD Cert.ReferenceIdeal.τ).loc Cert.ReferenceIdeal.main_arg1)
/-- The reference's result. -/
abbrev refOut : SX.Idx → EReal := Cert.ReferenceIdeal.Value.res_main_v38 (F := Ideal) m' 0

/-- The reference's result at an element. -/
theorem refOut_apply (b : Fin 2) (R : Fin 32768) (l : Fin 1024) :
    refOut m' (ix3 b R l) = silu (convAt (refX m') (refK m') b R l) := by
  unfold silu convAt
  rw [padRow_own]
  unfold padRow refOut Cert.ReferenceIdeal.Value.res_main_v38
  pointwise
end Reference

/-! ## The kernel -/

/-- The first tap at a column. -/
theorem tap0_apply (K : S4x1024.Idx → EReal) (l : Fin 1024) : tap0 (F := Ideal) K (ix3 (0 : Fin 1) (0 : Fin 1) l) = K (ix2 (0 : Fin 4) l) := by
  unfold tap0 k0_pay3 k0_pay2; pointwise
/-- The second tap at a column. -/
theorem tap1_apply (K : S4x1024.Idx → EReal) (l : Fin 1024) : tap1 (F := Ideal) K (ix3 (0 : Fin 1) (0 : Fin 1) l) = K (ix2 (1 : Fin 4) l) := by
  unfold tap1 k0_pay4 k0_pay2; pointwise
/-- The third tap at a column. -/
theorem tap2_apply (K : S4x1024.Idx → EReal) (l : Fin 1024) : tap2 (F := Ideal) K (ix3 (0 : Fin 1) (0 : Fin 1) l) = K (ix2 (2 : Fin 4) l) := by
  unfold tap2 k0_pay5 k0_pay2; pointwise
/-- The fourth tap at a column. -/
theorem tap3_apply (K : S4x1024.Idx → EReal) (l : Fin 1024) : tap3 (F := Ideal) K (ix3 (0 : Fin 1) (0 : Fin 1) l) = K (ix2 (3 : Fin 4) l) := by
  unfold tap3 k0_pay6 k0_pay2; pointwise

/-- The chunk's arithmetic at an element, from any window and taps: the activation of the sum in the kernel's order. -/
theorem pay_apply (v62 v64 v66 v68 : S1x1x1024.Idx → EReal) (w : S1x2x259x1024.Idx → EReal) (b : Fin 2) (r : Fin 256) (l : Fin 1024) :
    k0_pay7 (F := Ideal) v62 v64 v66 v68 w (ix4 (0 : Fin 1) b r l)
      = silu (w (ix4 (0 : Fin 1) b (⟨3 + r.val, by omega⟩ : Fin 259) l) * v68 (ix3 (0 : Fin 1) (0 : Fin 1) l)
          + w (ix4 (0 : Fin 1) b (⟨r.val, by omega⟩ : Fin 259) l) * v62 (ix3 (0 : Fin 1) (0 : Fin 1) l)
          + w (ix4 (0 : Fin 1) b (⟨1 + r.val, by omega⟩ : Fin 259) l) * v64 (ix3 (0 : Fin 1) (0 : Fin 1) l)
          + w (ix4 (0 : Fin 1) b (⟨2 + r.val, by omega⟩ : Fin 259) l) * v66 (ix3 (0 : Fin 1) (0 : Fin 1) l)) := by
  unfold silu
  rw [← silu_eq]
  unfold k0_pay7
  pointwise [ofBits_half]

variable (m : (ℓ : Loc nD τ sig) → Buf (Elt Ideal) ℓ)

/-- Every device's block of `x` is its part of the whole array `X`. -/
def Blocks (X : SX.Idx → EReal) : Prop :=
  ∀ (c : Dev nD) (b : Fin 2) (r : Fin 4096) (l : Fin 1024),
    (xAt m c : S2x4096x1024.Idx → EReal) (ix3 b r l) = X (ix3 b (⟨4096 * c.val + r.val, by have := c.isLt; have : nD = 8 := rfl; omega⟩ : Fin 32768) l)

/-- The last eight rows of a block. -/
theorem tail_apply (c : Dev nD) (b : Fin 2) (j : Fin 8) (l : Fin 1024) :
    tailOf m c (ix3 b j l) = (xAt m c : S2x4096x1024.Idx → EReal) (ix3 b (⟨4088 + j.val, by omega⟩ : Fin 4096) l) := by
  unfold tailOf
  refine congrArg (xAt m c : S2x4096x1024.Idx → EReal) (funext fun a => Fin.ext ?_)
  match a with
  | ⟨0, _⟩ => show 0 + 1 * b.val = b.val; omega
  | ⟨1, _⟩ => show 4088 + 1 * j.val = 4088 + j.val; omega
  | ⟨2, _⟩ => show 0 + 1 * l.val = l.val; omega

/-- The zeros of the first device's halo. -/
theorem pay1_apply (j : S2x8x1024.Idx) : k0_pay1 (F := Ideal) j = 0 := by
  unfold k0_pay1; pointwise

set_option backward.proofsInPublic true in
/-- The window of chunk `g` on device `c` is the padded array's from row `4096 c + 256 g` on. -/
theorem segRow_pad {X : SX.Idx → EReal} (hX : Blocks m X) (c : Dev nD) (g : Fin 16) (b : Fin 2) (r : Fin 259) (l : Fin 1024)
    (p : Fin 32771) (hp : p.val = 4096 * c.val + 256 * g.val + r.val) : segRow m c g b r l = padRow X b p l := by
  have hc : c.val < 8 := c.isLt
  unfold segRow padRow
  by_cases h : 3 ≤ 256 * g.val + r.val
  · rw [dif_pos h, dif_neg (by omega), hX c]
    exact congrArg (fun q : Fin 32768 => X (ix3 b q l)) (Fin.ext (by show 4096 * c.val + (256 * g.val + r.val - 3) = p.val - 3; omega))
  · rw [dif_neg h]
    unfold haloOf
    by_cases h0 : 0 < c.val
    · have hv : (prv c).val = (c.val + 7) % 8 := rfl
      rw [if_pos h0, dif_neg (by omega), tail_apply, hX (prv c)]
      exact congrArg (fun q : Fin 32768 => X (ix3 b q l)) (Fin.ext (by show 4096 * (prv c).val + (4088 + (5 + r.val)) = p.val - 3; omega))
    · rw [if_neg h0, dif_pos (by omega)]
      exact pay1_apply _

/-- The kernel's result block at an element. -/
theorem outOf_apply {X : SX.Idx → EReal} (hX : Blocks m X) (K : S4x1024.Idx → EReal) (c : Dev nD) (b : Fin 2) (r : Fin 4096) (l : Fin 1024)
    (R : Fin 32768) (hR : R.val = 4096 * c.val + r.val) :
    outOf m c K (ix3 b r l) = silu (convAt X K b R l) := by
  have hg : r.val / 256 < 16 := by omega
  have hq : r.val % 256 < 256 := Nat.mod_lt _ (by decide)
  have hi : (Fin.cons (⟨0, Nat.one_pos⟩ : Fin 1) (ix3 b (⟨r.val % 256, hq⟩ : Fin 256) l : S2x256x1024.Idx) : S1x2x256x1024.Idx)
      = ix4 (0 : Fin 1) b (⟨r.val % 256, hq⟩ : Fin 256) l := by
    funext a
    match a with
    | ⟨0, _⟩ => rfl
    | ⟨1, _⟩ => rfl
    | ⟨2, _⟩ => rfl
    | ⟨3, _⟩ => rfl
  show k0_pay7 (F := Ideal) (tap0 K) (tap1 K) (tap2 K) (tap3 K) (segOf m c ⟨r.val / 256, hg⟩)
    (Fin.cons (⟨0, Nat.one_pos⟩ : Fin 1) (ix3 b (⟨r.val % 256, hq⟩ : Fin 256) l : S2x256x1024.Idx) : S1x2x256x1024.Idx) = _
  have hs : ∀ (t : Fin 259) (p : Fin 32771), p.val = 4096 * c.val + 256 * (r.val / 256) + t.val →
      segOf m c ⟨r.val / 256, hg⟩ (ix4 (0 : Fin 1) b t l) = padRow X b p l :=
    fun t p hp => segRow_pad m hX c ⟨r.val / 256, hg⟩ b t l p hp
  rw [hi, pay_apply, tap0_apply, tap1_apply, tap2_apply, tap3_apply,
    hs _ ⟨3 + R.val, by omega⟩ (by show 3 + R.val = 4096 * c.val + 256 * (r.val / 256) + (3 + r.val % 256); omega),
    hs _ ⟨R.val, by omega⟩ (by show R.val = 4096 * c.val + 256 * (r.val / 256) + r.val % 256; omega),
    hs _ ⟨1 + R.val, by omega⟩ (by show 1 + R.val = 4096 * c.val + 256 * (r.val / 256) + (1 + r.val % 256); omega),
    hs _ ⟨2 + R.val, by omega⟩ (by show 2 + R.val = 4096 * c.val + 256 * (r.val / 256) + (2 + r.val % 256); omega)]
  refine congrArg silu ?_
  unfold convAt
  rw [add_comm, add_comm (padRow X b ⟨3 + R.val, _⟩ l * K (ix2 (3 : Fin 4) l))]
  ac_rfl

/-! ## The claim -/

/-- Device `c`'s row `r` of a block of the whole array is row `4096 c + r`. -/
theorem block_at (v : SX.Idx → EReal) (c : Dev nD) (b : Fin 2) (r : Fin 4096) (l : Fin 1024) (R : Fin 32768) (hR : R.val = 4096 * c.val + r.val) :
    (Layout.block ⟨3, ![2, 4096, 1024]⟩ ⟨3, ![2, 32768, 1024]⟩ 1 8 c v) (ix3 b r l) = v (ix3 b R l) := by
  rw [Layout.block_apply]
  refine congrArg v (funext fun a => Fin.ext ?_)
  rw [Layout.Tiles.idx_val]
  match a with
  | ⟨0, _⟩ => rfl
  | ⟨1, _⟩ => show c.val * 4096 + r.val = R.val; omega
  | ⟨2, _⟩ => rfl

/-- Each device's result block is its part of the reference's result. -/
theorem outOf_block {X : SX.Idx → EReal} (hX : Blocks m X) (K : S4x1024.Idx → EReal) (v : SX.Idx → EReal)
    (hv : ∀ b R l, v (ix3 b R l) = silu (convAt X K b R l)) (c : Dev nD) :
    outOf m c K = Layout.block ⟨3, ![2, 4096, 1024]⟩ ⟨3, ![2, 32768, 1024]⟩ 1 8 c v := by
  have hc : c.val < 8 := c.isLt
  funext i
  have h1 : (i 1).val < 4096 := (i 1).isLt
  have hi : i = ix3 (i 0 : Fin 2) (i 1 : Fin 4096) (i 2 : Fin 1024) := by
    funext a
    match a with
    | ⟨0, _⟩ => rfl
    | ⟨1, _⟩ => rfl
    | ⟨2, _⟩ => rfl
  rw [hi]
  exact (outOf_apply m hX K c (i 0) (i 1) (i 2) ⟨4096 * c.val + (i 1).val, by omega⟩ rfl).trans
    ((hv _ _ _).symm.trans (block_at v c (i 0) (i 1) (i 2) ⟨4096 * c.val + (i 1).val, by omega⟩ rfl).symm)

/-- The kernel computes the reference over the extended reals: each device ends with its part of the reference's result. -/
theorem algebraic : Cert.algebraic_KernelIdeal_ReferenceIdeal := by
  intro m ρ m' ρ' _ hagree
  have hX : Blocks m (refX m') := fun c b r l =>
    (congrFun (hagree c).1 (ix3 b r l)).trans (block_at (refX m') c b r l _ rfl)
  refine ⟨refOut m', ?_, ?_⟩
  · refine (θ_run defs _ _).mono (fun _ h c => ⟨?_, (h.1 c).1, (h.1 c).2.1⟩) (run_main (F := Ideal) m ρ)
    refine (h.1 c).2.2.trans ?_
    have hk : kAt m c = refK m' := (hagree c).2
    rw [hk]
    exact outOf_block m hX (refK m') (refOut m') (refOut_apply m') c
  · exact (θ_run Cert.ReferenceIdeal.defs _ _).mono (fun _ h => h 0) (Cert.ReferenceIdeal.Value.run (F := Ideal) m' ρ')

end Cert.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Conv.frame_kernel, Cert.Conv.frame_ideal, Cert.Conv.frame_reference, trivial, Cert.Conv.algebraic⟩

end Cert.Proof

end
